-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x64 : Shape := ⟨3, ![8, 1024, 64]⟩
abbrev S8192x64 : Shape := ⟨2, ![8192, 64]⟩
abbrev S_ : Shape := ⟨0, ![]⟩

class Facts : Prop where
  bcast_S_S8x1024x64 : S_.BroadcastsInDim S8x1024x64 (![] : Fin 0 → Fin S8x1024x64.rank)
  bcast_S_S8192x64 : S_.BroadcastsInDim S8192x64 (![] : Fin 0 → Fin S8192x64.rank)

variable [Facts]

def fn {F : FTy → Type} [FloatOps F] (main_arg0 : FVec F S8x1024x64 .f32) (main_arg1 : FVec F S8192x64 .f32) : IVec S8x1024x64 1 × IVec S8192x64 1 :=
  let main_v0 : FVec F S8x1024x64 .f32 := Host.absf main_arg0
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  let main_v3 : FVec F S8192x64 .f32 := Host.absf main_arg1
  let main_cst_0 : FVec F S_ .f32 := constant S_ .f32 0x7F800000#32
  let main_v4 : FVec F S8192x64 .f32 := broadcastInDim S8192x64 ![] bcast_S_S8192x64 main_cst_0
  let main_v5 : IVec S8192x64 1 := cmpf .olt main_v3 main_v4
  (main_v2, main_v5)
-- ==== Kernel.lean ====
abbrev S8x1024x64 : Shape := ⟨3, ![8, 1024, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S8x1024 : Shape := ⟨2, ![8, 1024]⟩

abbrev nBuf : Space → Nat
  | .hbm => 48
  | .vmem => 10
  | .smem => 0
  | _ => 0

abbrev bufTy : (tb : Table) → Fin (tcTables nBuf tb) → BufTy
  | .hbm, ⟨0, _⟩ => ⟨S8x1024x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x1, .i32⟩
  | .hbm, ⟨12, _⟩ => ⟨S8192x1, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S1, .i32⟩
  | .hbm, ⟨23, _⟩ => ⟨S_, .i32⟩
  | .hbm, ⟨24, _⟩ => ⟨S8192x1, .i32⟩
  | .hbm, ⟨25, _⟩ => ⟨S8192x1, .i1⟩
  | .hbm, ⟨26, _⟩ => ⟨S1x1, .i32⟩
  | .hbm, ⟨27, _⟩ => ⟨S8192x1, .i32⟩
  | .hbm, ⟨28, _⟩ => ⟨S8192x1, .i1⟩
  | .hbm, ⟨29, _⟩ => ⟨S8192x1, .i1⟩
  | .hbm, ⟨30, _⟩ => ⟨S_, .i1⟩
  | .hbm, ⟨31, _⟩ => ⟨S8192, .i1⟩
  | .hbm, ⟨32, _⟩ => ⟨S8192x64, .f32⟩
  | .hbm, ⟨33, _⟩ => ⟨S8192x64, .i1⟩
  | .hbm, ⟨34, _⟩ => ⟨S_, .f32⟩
  | .hbm, ⟨35, _⟩ => ⟨S8192x64, .f32⟩
  | .hbm, ⟨36, _⟩ => ⟨S8192x64, .f32⟩
  | .hbm, ⟨37, _⟩ => ⟨S8x1024x64, .f32⟩
  | .hbm, ⟨38, _⟩ => ⟨S8x1024x64, .f32⟩
  | .hbm, ⟨39, _⟩ => ⟨S8x1024x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x1024, .i32⟩
  | .local _ .vmem, ⟨0, _⟩ => ⟨S1024x64, .f32⟩
  | .local _ .vmem, ⟨1, _⟩ => ⟨S1024x64, .f32⟩
  | .local _ .vmem, ⟨2, _⟩ => ⟨S8192x64, .f32⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v10 : BitVec 32 := Scalar.muli arg7 c1024_i32
  v10
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v10 : BitVec 32 := Scalar.muli arg7 c1024_i32
  let v11 : BitVec 32 := v10
  let v12 : Index := Scalar.indexCast v11
  let c0_8 : Index := 0#32
  ![v12.toNat, 0]
def k0_off2 (k0_t1 : Fin k0_t1_loop.trips) : Fin 2 → Nat :=
  let c0_9 : Index := 0#32
  let c0_i32 : BitVec 32 := 0#32
  let c1_i32 : BitVec 32 := 1#32
  let arg7 : BitVec 32 := Scf.iv c0_i32 c1_i32 k0_t1
  let c1024_i32 : BitVec 32 := 1024#32
  let v10 : BitVec 32 := Scalar.muli arg7 c1024_i32
  let v11 : BitVec 32 := v10
  let v14 : Index := Scalar.indexCast v11
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x1024x64 : Shape := ⟨3, ![8, 1024, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S1 : Shape := ⟨1, ![1]⟩
abbrev S1x1 : Shape := ⟨2, ![1, 1]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S64x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S_, .f32⟩
  | .hbm, ⟨22, _⟩ => ⟨S_, .i32⟩
  | .hbm, ⟨23, _⟩ => ⟨S8192, .f32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S1, .i32⟩
  | .hbm, ⟨34, _⟩ => ⟨S_, .i32⟩
  | .hbm, ⟨35, _⟩ => ⟨S8192x1, .i32⟩
  | .hbm, ⟨36, _⟩ => ⟨S8192x1, .i1⟩
  | .hbm, ⟨37, _⟩ => ⟨S1x1, .i32⟩
  | .hbm, ⟨38, _⟩ => ⟨S8192x1, .i32⟩
  | .hbm, ⟨39, _⟩ => ⟨S8192x1, .i1⟩
  | .hbm, ⟨40, _⟩ => ⟨S8192x1, .i1⟩
  | .hbm, ⟨41, _⟩ => ⟨S_, .i1⟩
  | .hbm, ⟨42, _⟩ => ⟨S8192, .i1⟩
  | .hbm, ⟨43, _⟩ => ⟨S8192x64, .f32⟩
  | .hbm, ⟨44, _⟩ => ⟨S8192x64, .i1⟩
  | .hbm, ⟨45, _⟩ => ⟨S_, .f32⟩
  | .hbm, ⟨46, _⟩ => ⟨S8192x64, .f32⟩
  | .hbm, ⟨47, _⟩ => ⟨S8192x64, .f32⟩
  | .hbm, ⟨48, _⟩ => ⟨S8x1024x64, .f32⟩
  | .hbm, ⟨49, _⟩ => ⟨S8x1024, .i32⟩
  | .hbm, ⟨50, _⟩ => ⟨S8x1024x64, .f32⟩
  | .hbm, ⟨51, _⟩ => ⟨S8x1024x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x1024x64, .f32⟩
  | .hbm, ⟨59, _⟩ => ⟨S8x1024x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x1024x64, .f32⟩
  | .hbm, ⟨65, _⟩ => ⟨S8x1024x64, .f32⟩
  | .hbm, ⟨66, _⟩ => ⟨S_, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Proof.RefRun.lean ====
/-
  The reference's run. Its operations in order, cut into four stretches — the distances, the position of
  the least one in each row, the rows of the codebook at those positions, the three results —, what the
  three results hold at the end as terms of the two arguments (`run`), and that the arguments and every
  semaphore counter end as they began (`quiescent`).
-/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Pipeline.Regions

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Idealize.ShloMosaic.StableHlo

variable {F : FTy → Type} [FloatOps F]

/-- The distances: squared norms of the rows, of the codebook's entries, and their products. -/
abbrev opsDist : List (HloOp τ sig (Elt F)) :=
  [ reshape main_arg0 main_v0 rfl shapeCasts_S8x1024x64_S8192x64,
    binary main_v0 main_v0 main_v1 mulf,
    nullary main_cst (constant S_ .f32 0x00000000#32),
    binary main_v1 main_cst main_v2 (fun x v => Host.reduceAdd x v reducesTo_S8192x64_S8192_d1 h_S_),
    unary main_v2 main_v3 (broadcastInDim S8192x1 ![0] bcast_S8192_S8192x1_0),
    binary main_arg1 main_arg1 main_v4 mulf,
    nullary main_cst_0 (constant S_ .f32 0x00000000#32),
    binary main_v4 main_cst_0 main_v5 (fun x v => Host.reduceAdd x v reducesTo_S8192x64_S8192_d1 h_S_),
    unary main_v5 main_v6 (broadcastInDim S1x8192 ![1] bcast_S8192_S1x8192_1),
    unary main_v3 main_v7 (broadcastInDim S8192x8192 ![0, 1] bcast_S8192x1_S8192x8192_0_1),
    unary main_v6 main_v8 (broadcastInDim S8192x8192 ![0, 1] bcast_S1x8192_S8192x8192_0_1),
    binary main_v7 main_v8 main_v9 addf,
    unary main_arg1 main_v10 (transpose S64x8192 [1, 0] · transposes_S8192x64_S64x8192_1_0),
    binary main_v0 main_v10 main_v11 (fun l r => Host.dotGeneral dot_S8192x64_S64x8192_S8192x8192_1_0_0_1_n_n none l r),
    nullary main_cst_1 (constant S_ .f32 0x40000000#32),
    unary main_cst_1 main_v12 (broadcastInDim S8192x8192 ![] bcast_S_S8192x8192),
    binary main_v12 main_v11 main_v13 mulf,
    binary main_v9 main_v13 main_v14 subf ]

/-- The position of the least distance of each row. -/
abbrev opsArgmin : List (HloOp τ sig (Elt F)) :=
  [ nullary main_call0_v0 (iotaInDim S8192x8192 32 1),
    nullary main_call0_cst (constant S_ .f32 0x7F800000#32),
    nullary main_call0_c (constantI S_ 32 0#32),
    quaternary main_v14 main_call0_v0 main_call0_cst main_call0_c main_call0_v1_0 (fun x y u v j => (Host.argReduce reducer_argmin_f32_i32 x y u v reducesTo_S8192x8192_S8192_d1 h_S_ j).1),
    quaternary main_v14 main_call0_v0 main_call0_cst main_call0_c main_v15 (fun x y u v j => (Host.argReduce reducer_argmin_f32_i32 x y u v reducesTo_S8192x8192_S8192_d1 h_S_ j).2) ]

/-- The codebook's rows at the positions. -/
abbrev opsTake : List (HloOp τ sig (Elt F)) :=
  [ nullary main_call1_c (constantI S_ 32 0#32),
    unary main_call1_c main_call1_v0 (broadcastInDim S8192 ![] bcast_S_S8192),
    binary main_v15 main_call1_v0 main_call1_v1 (cmpi .slt),
    nullary main_call1_c_0 (constantI S_ 32 8192#32),
    unary main_call1_c_0 main_call1_v2 (broadcastInDim S8192 ![] bcast_S_S8192),
    binary main_v15 main_call1_v2 main_call1_v3 addi,
    ternary main_call1_v1 main_call1_v3 main_v15 main_call1_v4 select,
    unary main_call1_v4 main_call1_v5 (broadcastInDim S8192x1 ![0] bcast_S8192_S8192x1_0),
    nullary main_call1_c_1 (constantI S1 32 8191#32),
    nullary main_call1_c_2 (constantI S_ 32 0#32),
    unary main_call1_c_2 main_call1_v6 (broadcastInDim S8192x1 ![] bcast_S_S8192x1),
    binary main_call1_v5 main_call1_v6 main_call1_v7 (cmpi .sge),
    unary main_call1_c_1 main_call1_v8 (broadcastInDim S1x1 ![1] bcast_S1_S1x1_1),
    unary main_call1_v8 main_call1_v9 (broadcastInDim S8192x1 ![0, 1] bcast_S1x1_S8192x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S8192x1_S8192_d1 h_S_),
    binary main_arg1 main_call1_v5 main_call1_v13 (fun x i => Host.gather gather_S8192x64_S8192x1_S8192x64_1_0_n_n_0_1_164 x i),
    unary main_call1_v12 main_call1_v14 (broadcastInDim S8192x64 ![0] bcast_S8192_S8192x64_0),
    nullary main_call1_cst (constant S_ .f32 0x7FC00000#32),
    unary main_call1_cst main_call1_v15 (broadcastInDim S8192x64 ![] bcast_S_S8192x64),
    ternary main_call1_v14 main_call1_v13 main_call1_v15 main_v16 select ]

/-- The three results. -/
abbrev opsEnd : List (HloOp τ sig (Elt F)) :=
  [ reshape main_v16 main_v17 rfl shapeCasts_S8192x64_S8x1024x64,
    reshape main_v15 main_v18 rfl shapeCasts_S8192_S8x1024,
    binary main_arg0 main_v17 main_v19 subf,
    binary main_v19 main_v19 main_v20 mulf,
    nullary main_cst_2 (constant S_ .f32 0x00000000#32),
    binary main_v20 main_cst_2 main_v21 (fun x v => Host.reduceAdd x v reducesTo_S8x1024x64_S_d0_1_2 h_S_),
    nullary main_cst_3 (constant S_ .f32 0x49000000#32),
    binary main_v21 main_cst_3 main_v22 Host.divf,
    nullary main_cst_4 (constant S_ .f32 0x3E800000#32),
    binary main_cst_4 main_v22 main_v23 mulf,
    binary main_arg0 main_v17 main_v24 subf,
    binary main_v24 main_v24 main_v25 mulf,
    nullary main_cst_5 (constant S_ .f32 0x00000000#32),
    binary main_v25 main_cst_5 main_v26 (fun x v => Host.reduceAdd x v reducesTo_S8x1024x64_S_d0_1_2 h_S_),
    nullary main_cst_6 (constant S_ .f32 0x49000000#32),
    binary main_v26 main_cst_6 main_v27 Host.divf,
    binary main_v17 main_arg0 main_v28 subf,
    binary main_arg0 main_v28 main_v29 addf,
    binary main_v23 main_v27 main_v30 addf ]

/-- All of them, in order. -/
abbrev ops : List (HloOp τ sig (Elt F)) := opsDist ++ (opsArgmin ++ (opsTake ++ opsEnd))

theorem main_eq (c : Dev nD) : main (F := F) c = seq ops := by
  have h : main (F := F) c = Pipeline.chain [seq opsDist, seq opsArgmin, seq opsTake, seq opsEnd] := by
    rewrite [chain_seq_cons, Pipeline.chain_cons, Pipeline.chain_cons, chain_seq_cons]
    chain_rfl
  rw [h]
  simp only [ops, seq_append, Pipeline.chain, bind_pure_unit]
theorem scopedRefs_eq : (Finset.univ.filter fun b : Ref sig .tc => b.isScoped) = ∅ := by decide
theorem scopedSems_eq : (Finset.univ.filter fun sm : SemLoc sig => sm.isScoped .tc) = ∅ := by decide

theorem opsDist_sub : (opsDist : List (HloOp τ sig (Elt F))).Forall fun op => op.bufs ⊆ tcRefs τ sig :=
  ⟨reshape_bufs_sub .., binary_bufs_sub .., nullary_bufs_sub .., binary_bufs_sub .., unary_bufs_sub .., binary_bufs_sub ..,
    nullary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..⟩
theorem opsArgmin_sub : (opsArgmin : List (HloOp τ sig (Elt F))).Forall fun op => op.bufs ⊆ tcRefs τ sig :=
  ⟨nullary_bufs_sub .., nullary_bufs_sub .., nullary_bufs_sub .., quaternary_bufs_sub .., quaternary_bufs_sub ..⟩
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsEnd_sub : (opsEnd : List (HloOp τ sig (Elt F))).Forall fun op => op.bufs ⊆ tcRefs τ sig :=
  ⟨reshape_bufs_sub .., reshape_bufs_sub .., binary_bufs_sub .., binary_bufs_sub .., nullary_bufs_sub .., binary_bufs_sub ..,
    nullary_bufs_sub .., binary_bufs_sub .., nullary_bufs_sub .., binary_bufs_sub .., binary_bufs_sub .., binary_bufs_sub ..,
    nullary_bufs_sub .., binary_bufs_sub .., nullary_bufs_sub .., binary_bufs_sub .., binary_bufs_sub .., binary_bufs_sub ..,
    binary_bufs_sub ..⟩
theorem ops_sub : (ops : List (HloOp τ sig (Elt F))).Forall fun op => op.bufs ⊆ tcRefs τ sig := by
  simp only [ops, List.forall_append]
  exact ⟨opsDist_sub, opsArgmin_sub, opsTake_sub, opsEnd_sub⟩

/-- Two stretches run one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The distances, from the rows `z` and the codebook `cb`. -/
def distOf (z : FVec F S8x1024x64 .f32) (cb : FVec F S8192x64 .f32) : FVec F S8192x8192 .f32 :=
  subf
    (addf
      (broadcastInDim S8192x8192 ![0, 1] bcast_S8192x1_S8192x8192_0_1 (broadcastInDim S8192x1 ![0] bcast_S8192_S8192x1_0
        (Host.reduceAdd (mulf (shapeCast S8192x64 z shapeCasts_S8x1024x64_S8192x64) (shapeCast S8192x64 z shapeCasts_S8x1024x64_S8192x64))
          (constant S_ .f32 0x00000000#32) reducesTo_S8192x64_S8192_d1 h_S_)))
      (broadcastInDim S8192x8192 ![0, 1] bcast_S1x8192_S8192x8192_0_1 (broadcastInDim S1x8192 ![1] bcast_S8192_S1x8192_1
        (Host.reduceAdd (mulf cb cb) (constant S_ .f32 0x00000000#32) reducesTo_S8192x64_S8192_d1 h_S_))))
    (mulf (broadcastInDim S8192x8192 ![] bcast_S_S8192x8192 (constant S_ .f32 0x40000000#32))
      (Host.dotGeneral dot_S8192x64_S64x8192_S8192x8192_1_0_0_1_n_n none (shapeCast S8192x64 z shapeCasts_S8x1024x64_S8192x64)
        (transpose S64x8192 [1, 0] cb transposes_S8192x64_S64x8192_1_0)))

/-- The position of the least distance of each row of `d`. -/
def argOf (d : FVec F S8192x8192 .f32) : IVec S8192 32 := fun j =>
  (Host.argReduce reducer_argmin_f32_i32 d (iotaInDim S8192x8192 32 1) (constant S_ .f32 0x7F800000#32) (constantI S_ 32 0#32)
    reducesTo_S8192x8192_S8192_d1 h_S_ j).2

/-- `argOf` spelt out. -/
theorem argOf_eq (d : FVec F S8192x8192 .f32) : argOf d = fun j =>
    (Host.argReduce reducer_argmin_f32_i32 d (iotaInDim S8192x8192 32 1) (constant S_ .f32 0x7F800000#32) (constantI S_ 32 0#32)
    reducesTo_S8192x8192_S8192_d1 h_S_ j).2 := rfl

/-- A position as the lookup reads it: counted from the end where it is negative, in one column. -/
def lookupOf (ix : IVec S8192 32) : IVec S8192x1 32 :=
  broadcastInDim S8192x1 ![0] bcast_S8192_S8192x1_0
    (select (cmpi .slt ix (broadcastInDim S8192 ![] bcast_S_S8192 (constantI S_ 32 0#32)))
      (addi ix (broadcastInDim S8192 ![] bcast_S_S8192 (constantI S_ 32 8192#32))) ix)

/-- Which of the lookups are inside the codebook. -/
def insideOf (p : IVec S8192x1 32) : IVec S8192 1 :=
  Host.reduce IntOp.andi
    (andi (cmpi .sge p (broadcastInDim S8192x1 ![] bcast_S_S8192x1 (constantI S_ 32 0#32)))
      (cmpi .sle p (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The codebook's rows at the positions `ix`. -/
def takeOf (cb : FVec F S8192x64 .f32) (ix : IVec S8192 32) : FVec F S8192x64 .f32 :=
  select (broadcastInDim S8192x64 ![0] bcast_S8192_S8192x64_0 (insideOf (lookupOf ix)))
    (Host.gather gather_S8192x64_S8192x1_S8192x64_1_0_n_n_0_1_164 cb (lookupOf ix))
    (broadcastInDim S8192x64 ![] bcast_S_S8192x64 (constant S_ .f32 0x7FC00000#32))

/-- The mean of the squared differences. -/
def meanSq (z q : FVec F S8x1024x64 .f32) : FVec F S_ .f32 :=
  Host.divf (Host.reduceAdd (mulf (subf z q) (subf z q)) (constant S_ .f32 0x00000000#32) reducesTo_S8x1024x64_S_d0_1_2 h_S_)
    (constant S_ .f32 0x49000000#32)

/-- The loss: a quarter of that mean, and the mean. -/
def lossOf (z q : FVec F S8x1024x64 .f32) : FVec F S_ .f32 :=
  addf (mulf (constant S_ .f32 0x3E800000#32) (meanSq z q)) (meanSq z q)

section Stretches
variable (V : Valuation τ sig (Elt F))

theorem dist_v14 : after opsDist V (Proc.devRef .tc main_v14) = distOf (V (Proc.devRef .tc main_arg0)) (V (Proc.devRef .tc main_arg1)) := by
  after_results_simp; rfl
theorem dist_arg0 : after opsDist V (Proc.devRef .tc main_arg0) = V (Proc.devRef .tc main_arg0) := by after_results_simp
theorem dist_arg1 : after opsDist V (Proc.devRef .tc main_arg1) = V (Proc.devRef .tc main_arg1) := by after_results_simp

theorem argmin_v15 : after opsArgmin V (Proc.devRef .tc main_v15) = argOf (V (Proc.devRef .tc main_v14)) := by
  after_results_simp; rfl
theorem argmin_arg0 : after opsArgmin V (Proc.devRef .tc main_arg0) = V (Proc.devRef .tc main_arg0) := by after_results_simp
theorem argmin_arg1 : after opsArgmin V (Proc.devRef .tc main_arg1) = V (Proc.devRef .tc main_arg1) := by after_results_simp

theorem take_v16 : after opsTake V (Proc.devRef .tc main_v16)
    = takeOf (V (Proc.devRef .tc main_arg1)) (V (Proc.devRef .tc main_v15)) := by
  after_results_simp; rfl
theorem take_v15 : after opsTake V (Proc.devRef .tc main_v15) = V (Proc.devRef .tc main_v15) := by after_results_simp
theorem take_arg0 : after opsTake V (Proc.devRef .tc main_arg0) = V (Proc.devRef .tc main_arg0) := by after_results_simp
theorem take_arg1 : after opsTake V (Proc.devRef .tc main_arg1) = V (Proc.devRef .tc main_arg1) := by after_results_simp

theorem end_v29 : after opsEnd V (Proc.devRef .tc main_v29)
    = addf (V (Proc.devRef .tc main_arg0) : FVec F S8x1024x64 .f32)
        (subf (shapeCast S8x1024x64 (V (Proc.devRef .tc main_v16)) shapeCasts_S8192x64_S8x1024x64) (V (Proc.devRef .tc main_arg0))) := by
  after_results_simp; rfl
theorem end_v30 : after opsEnd V (Proc.devRef .tc main_v30)
    = lossOf (V (Proc.devRef .tc main_arg0)) (shapeCast S8x1024x64 (V (Proc.devRef .tc main_v16)) shapeCasts_S8192x64_S8x1024x64) := by
  after_results_simp; rfl
theorem end_v18 : after opsEnd V (Proc.devRef .tc main_v18)
    = shapeCast S8x1024 (V (Proc.devRef .tc main_v15) : IVec S8192 32) shapeCasts_S8192_S8x1024 := by
  after_results_simp; rfl
theorem end_arg0 : after opsEnd V (Proc.devRef .tc main_arg0) = V (Proc.devRef .tc main_arg0) := by after_results_simp
theorem end_arg1 : after opsEnd V (Proc.devRef .tc main_arg1) = V (Proc.devRef .tc main_arg1) := by after_results_simp

end Stretches

/-- The positions of the nearest entries, from the two arguments. -/
def indexOf (z : FVec F S8x1024x64 .f32) (cb : FVec F S8192x64 .f32) : IVec S8192 32 := argOf (distOf z cb)

/-- The entries at those positions, in the shape of the first argument. -/
def entriesOf (z : FVec F S8x1024x64 .f32) (cb : FVec F S8192x64 .f32) : FVec F S8x1024x64 .f32 :=
  shapeCast S8x1024x64 (takeOf cb (indexOf z cb)) shapeCasts_S8192x64_S8x1024x64

section Whole
variable (m : (ℓ : Loc nD τ sig) → Buf (Elt F) ℓ) (ρ : Dev nD → PrngReg)

/-- Every run of the reference ends, with the three results at these functions of the arguments and the
    arguments unchanged. -/
theorem run : θ_run defs (onTc (τ := τ) (main (F := F))) ⟨m, fun _ => 0, ρ⟩ fun r => ∀ c : Dev nD,
      r.2.mem ((c.tc : Thread nD τ).loc main_v29)
        = addf (m ((c.tc : Thread nD τ).loc main_arg0) : FVec F S8x1024x64 .f32)
            (subf (entriesOf (m ((c.tc : Thread nD τ).loc main_arg0)) (m ((c.tc : Thread nD τ).loc main_arg1))) (m ((c.tc : Thread nD τ).loc main_arg0)))
      ∧ r.2.mem ((c.tc : Thread nD τ).loc main_v30)
        = lossOf (m ((c.tc : Thread nD τ).loc main_arg0)) (entriesOf (m ((c.tc : Thread nD τ).loc main_arg0)) (m ((c.tc : Thread nD τ).loc main_arg1)))
      ∧ r.2.mem ((c.tc : Thread nD τ).loc main_v18)
        = shapeCast S8x1024 (indexOf (F := F) (m ((c.tc : Thread nD τ).loc main_arg0)) (m ((c.tc : Thread nD τ).loc main_arg1))) shapeCasts_S8192_S8x1024
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_, ?_⟩)
    (run_seq scopedRefs_eq scopedSems_eq defs main (fun _ => ops) main_eq (fun _ => ops_sub) m ρ)
  · refine (h c main_v29).trans ?_
    simp only [ops, after_two]
    rw [end_v29, take_v16, take_arg0, argmin_v15, argmin_arg0, argmin_arg1, dist_v14, dist_arg0, dist_arg1]; rfl
  · refine (h c main_v30).trans ?_
    simp only [ops, after_two]
    rw [end_v30, take_v16, take_arg0, argmin_v15, argmin_arg0, argmin_arg1, dist_v14, dist_arg0, dist_arg1]; rfl
  · refine (h c main_v18).trans ?_
    simp only [ops, after_two]
    rw [end_v18, take_v15, argmin_v15, dist_v14]; rfl
  · refine (h c main_arg0).trans ?_
    simp only [ops, after_two]
    rw [end_arg0, take_arg0, argmin_arg0, dist_arg0]
  · refine (h c main_arg1).trans ?_
    simp only [ops, after_two]
    rw [end_arg1, take_arg1, argmin_arg1, dist_arg1]

/-- Every run of the reference ends with the arguments unchanged and every semaphore counter at zero. -/
theorem quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems (by decide) _⟩) (run m ρ)

end Whole

end Cert.ReferenceIdeal.Value

end
-- ==== Proof.Nearest.lean ====
/-
  The nearest entry of a finite table of distances, with no program in sight: what it means for a
  position to be the first nearest among the positions below a bound (`Best`), that a block of further
  positions is taken in by one comparison (`Best.step`), that the position is determined by the
  distances (`before_unique`), and two folds that find it — the running minimum of a block with the
  least marked position (`block_min`, `fold_minsi_eq`), and one pass over (distance, position) pairs
  that keeps the smaller distance and, at equal distances, the smaller position (`foldl_least`).
-/
module

public import Idealize.ShloMosaic.Lib.ValueIdx
public import Idealize.ShloMosaic.PureOps.Ideal.Laws

@[expose] public section

noncomputable section

namespace Cert.Proof.VQ

open Idealize.ShloMosaic

/-- Position `a` comes before position `j`: it is strictly nearer, or as near and not later. -/
def Before {N : Nat} (D : Fin N → EReal) (a j : Fin N) : Prop := D a < D j ∨ (D a = D j ∧ a ≤ j)

/-- The value `v` and the word `i` are the least distance among the positions below `n` and the first
    position that has it; before any position has been looked at, `v` is `⊤`. -/
def Best {N : Nat} (D : Fin N → EReal) (n : Nat) (v : EReal) (i : BitVec 32) : Prop :=
  (n = 0 ∧ v = ⊤) ∨
    ∃ a : Fin N, a.val < n ∧ v = D a ∧ i = BitVec.ofNat 32 a.val ∧ ∀ j : Fin N, j.val < n → Before D a j

theorem Before.antisymm {N : Nat} {D : Fin N → EReal} {a b : Fin N} (h : Before D a b) (h' : Before D b a) : a = b := by
  rcases h with h | ⟨h, hab⟩
  · rcases h' with h' | ⟨h', _⟩
    · exact absurd h' (not_lt.mpr h.le)
    · exact absurd h'.symm h.ne
  · rcases h' with h' | ⟨_, hba⟩
    · exact absurd h.symm h'.ne
    · exact le_antisymm hab hba

/-- Taking in the positions `n, …, n + w - 1`: where `b` is the first nearest of those, the pair that one
    comparison `D b < v` selects is the first nearest of all positions below `n + w`. -/
theorem Best.step {N : Nat} {D : Fin N → EReal} (hD : ∀ j, D j < ⊤) {n w : Nat} {v : EReal} {i : BitVec 32}
    (h : Best D n v i) (b : Fin N) (hb : n ≤ b.val) (hb' : b.val < n + w)
    (hmin : ∀ j : Fin N, n ≤ j.val → j.val < n + w → Before D b j) :
    Best D (n + w) (if D b < v then D b else v) (if D b < v then BitVec.ofNat 32 b.val else i) := by
  rcases h with ⟨rfl, rfl⟩ | ⟨a, ha, rfl, rfl, hall⟩
  · rw [if_pos (hD b), if_pos (hD b)]
    exact Or.inr ⟨b, hb', rfl, rfl, fun j hj => hmin j (Nat.zero_le _) hj⟩
  · by_cases hlt : D b < D a
    · rw [if_pos hlt, if_pos hlt]
      refine Or.inr ⟨b, hb', rfl, rfl, fun j hj => ?_⟩
      by_cases hjn : j.val < n
      · rcases hall j hjn with h | ⟨h, _⟩
        · exact Or.inl (hlt.trans h)
        · exact Or.inl (h ▸ hlt)
      · exact hmin j (by omega) hj
    · rw [if_neg hlt, if_neg hlt]
      refine Or.inr ⟨a, by omega, rfl, rfl, fun j hj => ?_⟩
      by_cases hjn : j.val < n
      · exact hall j hjn
      · have hab : D a ≤ D b := not_lt.mp hlt
        have haj : a ≤ j := Fin.le_def.mpr (by omega)
        rcases hmin j (by omega) hj with h | ⟨h, _⟩
        · exact Or.inl (hab.trans_lt h)
        · rcases hab.lt_or_eq with h' | h'
          · exact Or.inl (h ▸ h')
          · exact Or.inr ⟨h'.trans h, haj⟩

/-- Once all positions have been looked at, there is one position that comes before every other, and the
    pair names it. -/
theorem Best.exists_of_all {N : Nat} {D : Fin N → EReal} (hN : N ≠ 0) {v : EReal} {i : BitVec 32} (h : Best D N v i) :
    ∃ a : Fin N, v = D a ∧ i = BitVec.ofNat 32 a.val ∧ ∀ j, Before D a j := by
  rcases h with ⟨h0, _⟩ | ⟨a, _, hv, hi, hall⟩
  · exact absurd h0 hN
  · exact ⟨a, hv, hi, fun j => hall j j.isLt⟩

/-- The first nearest position is determined by the distances. -/
theorem before_unique {N : Nat} {D : Fin N → EReal} {a b : Fin N} (ha : ∀ j, Before D a j) (hb : ∀ j, Before D b j) : a = b :=
  (ha b).antisymm (hb a)

/-! ## The running minimum of a block, and its least marked position -/

/-- The fold of `min` from `⊤` over a nonempty range is a lower bound of the values and one of them. -/
theorem block_min {w : Nat} (f : Fin w → EReal) (hw : 0 < w) :
    (∀ k, (Finset.univ : Finset (Fin w)).fold min ⊤ f ≤ f k) ∧ ∃ k, (Finset.univ : Finset (Fin w)).fold min ⊤ f = f k := by
  have hle : ∀ k, (Finset.univ : Finset (Fin w)).fold min ⊤ f ≤ f k := fun k =>
    (Finset.fold_min_le _).mpr (Or.inr ⟨k, Finset.mem_univ k, le_rfl⟩)
  refine ⟨hle, ?_⟩
  rcases (Finset.fold_min_le (s := Finset.univ) (b := (⊤ : EReal)) (f := f) (Finset.univ.fold min ⊤ f)).mp le_rfl with h | ⟨k, _, hk⟩
  · refine ⟨⟨0, hw⟩, le_antisymm (hle _) ?_⟩
    exact le_top.trans h
  · exact ⟨k, le_antisymm (hle k) hk⟩

/-- The signed minimum of two words, read as an integer. -/
theorem toInt_minsi (x y : BitVec 32) : (IntOp.minsi x y).toInt = min x.toInt y.toInt := by
  unfold IntOp.minsi
  simp only [BitVec.slt, decide_eq_true_eq]
  split_ifs with h
  · exact (min_eq_left h.le).symm
  · exact (min_eq_right (not_lt.mp h)).symm

/-- The signed minimum of words, one of which is `x` and none of which is below it, is `x`. -/
theorem fold_minsi_eq {ι : Type} [Fintype ι] (b : BitVec 32) (f : ι → BitVec 32) (k : ι) (hb : (f k).toInt ≤ b.toInt)
    (hle : ∀ j, (f k).toInt ≤ (f j).toInt) : (Finset.univ : Finset ι).fold IntOp.minsi b f = f k := by
  apply BitVec.eq_of_toInt_eq
  have hfold := Finset.fold_hom (s := (Finset.univ : Finset ι)) (op := IntOp.minsi (w := 32)) (op' := (min : Int → Int → Int))
    (m := BitVec.toInt) (b := b) (f := f) toInt_minsi
  rw [← hfold]
  exact le_antisymm ((Finset.fold_min_le _).mpr (Or.inr ⟨k, Finset.mem_univ k, le_rfl⟩))
    ((Finset.le_fold_min _).mpr ⟨hb, fun j _ => hle j⟩)

/-! ## One pass over (distance, position) pairs -/

/-- `p` is no later than `q` in the order by value, then by signed word. -/
def PairLe (p q : EReal × BitVec 32) : Prop := p.1 < q.1 ∨ (p.1 = q.1 ∧ p.2.toInt ≤ q.2.toInt)

theorem PairLe.refl (p : EReal × BitVec 32) : PairLe p p := Or.inr ⟨rfl, le_rfl⟩

theorem PairLe.trans {p q r : EReal × BitVec 32} (h : PairLe p q) (h' : PairLe q r) : PairLe p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A pass that keeps one of the two pairs it compares, and one no later than either, ends at a pair of the
    list or the one it started from, no later than any of them. -/
theorem foldl_least (f : EReal × BitVec 32 → EReal × BitVec 32 → EReal × BitVec 32)
    (hmem : ∀ p q, f p q = p ∨ f p q = q) (hl : ∀ p q, PairLe (f p q) p) (hr : ∀ p q, PairLe (f p q) q) :
    ∀ (L : List (EReal × BitVec 32)) (p : EReal × BitVec 32),
      (L.foldl f p = p ∨ L.foldl f p ∈ L) ∧ PairLe (L.foldl f p) p ∧ ∀ q ∈ L, PairLe (L.foldl f p) q
  | [], p => ⟨Or.inl rfl, PairLe.refl p, fun q hq => absurd hq (by simp)⟩
  | x :: L, p => by
    obtain ⟨h1, h2, h3⟩ := foldl_least f hmem hl hr L (f p x)
    rw [List.foldl_cons]
    refine ⟨?_, h2.trans (hl p x), fun q hq => ?_⟩
    · rcases h1 with h | h
      · rcases hmem p x with h' | h'
        · exact Or.inl (h.trans h')
        · exact Or.inr (by rw [h, h']; exact List.mem_cons_self)
      · exact Or.inr (List.mem_cons_of_mem _ h)
    · rcases List.mem_cons.mp hq with rfl | hq
      · exact h2.trans (hr p q)
      · exact h3 q hq

/-- A small number read back from its 32-bit word. -/
theorem toInt_ofNat_small {n : Nat} (h : n < 2147483648) : (BitVec.ofNat 32 n).toInt = (n : Int) := by
  rw [BitVec.toInt_eq_toNat_of_lt] <;> rw [BitVec.toNat_ofNat, Nat.mod_eq_of_lt (by omega)]
  omega

end Cert.Proof.VQ

end
-- ==== Proof.Spec.lean ====
/-
  The distances and their nearest entry, with no program in sight; and the two readings both programs share: a sum along
  a row, and a comparison with `+∞`.
-/
module

public import proofs.«01_k».proof.Proof.Nearest
public import Idealize.ShloMosaic.Lib.Pointwise.Index
public import Idealize.ShloMosaic.Lib.IdealHost
public import Idealize.ShloMosaic.Lib.Pipeline.Value

@[expose] public section

set_option maxRecDepth 16384

noncomputable section

namespace Cert.Proof.VQ

open Idealize.ShloMosaic

/-- A table of 8192 rows of 64 numbers. -/
abbrev Rows64 : Type := (⟨2, ![8192, 64]⟩ : Shape).Idx → EReal

/-- The sum of the squares of row `r`. -/
def sq (x : Rows64) (r : Fin 8192) : EReal := ∑ k : Fin 64, x (ix2 r k) * x (ix2 r k)

/-- The distance of row `r` to codebook entry `j`: the two squared norms, less twice the product. -/
def dist2 (z cb : Rows64) (r j : Fin 8192) : EReal :=
  (sq z r + sq cb j) - Ideal.ofBits .f32 0x40000000#32 * ∑ k : Fin 64, z (ix2 r k) * cb (ix2 j k)

/-- A nonempty finite table of distances has a first nearest position. -/
theorem exists_first (D : Fin 8192 → EReal) : ∃ a, ∀ j, Before D a j := by
  obtain ⟨m, -, hm⟩ := Finset.exists_min_image (Finset.univ : Finset (Fin 8192)) D ⟨⟨0, by decide⟩, Finset.mem_univ _⟩
  have hne : (Finset.univ.filter fun j => D j = D m).Nonempty := ⟨m, by simp⟩
  obtain ⟨a, ha, hfirst⟩ := Finset.exists_min_image _ (fun j : Fin 8192 => j) hne
  have ha' : D a = D m := (Finset.mem_filter.mp ha).2
  refine ⟨a, fun j => ?_⟩
  by_cases hj : D j = D m
  · exact Or.inr ⟨ha'.trans hj.symm, hfirst j (by simpa using hj)⟩
  · exact Or.inl (ha' ▸ lt_of_le_of_ne (hm j (Finset.mem_univ _)) fun e => hj e.symm)

/-- The first nearest position. -/
def near (D : Fin 8192 → EReal) : Fin 8192 := Classical.choose (exists_first D)

theorem near_spec (D : Fin 8192 → EReal) : ∀ j, Before D (near D) j := Classical.choose_spec (exists_first D)

/-- A position that comes before every other is the first nearest one. -/
theorem eq_near {D : Fin 8192 → EReal} {a : Fin 8192} (ha : ∀ j, Before D a j) : a = near D := before_unique ha (near_spec D)

/-- The sum of each row, from zero. -/
theorem rowSum_apply (x : FVec Ideal ⟨2, ![8192, 64]⟩ .f32) (h : (⟨2, ![8192, 64]⟩ : Shape).ReducesTo [1] ⟨1, ![8192]⟩)
    (hS : 0 < (⟨0, ![]⟩ : Shape).numel) (r : Fin 8192) :
    Host.reduceAdd x (constant (⟨0, ![]⟩ : Shape) .f32 0x00000000#32) h hS (ix1 r) = ∑ k : Fin 64, x (ix2 r k) := by
  have h' : (⟨2, ![8192, 64]⟩ : Shape).Reduces [1] ⟨1, ![8192]⟩ := by decide
  refine (Ideal.hostReduceAdd_single h h' x (Ideal.ofBits .f32 0x00000000#32) (ix1 r)).trans ?_
  rw [Ideal.ofBits_zero_f32, zero_add]
  refine Finset.sum_congr rfl fun k _ => congrArg x ?_
  funext a; apply Fin.ext
  match a with
  | ⟨0, _⟩ => rfl
  | ⟨1, _⟩ => rfl

end Cert.Proof.VQ
-- ==== Proof.RefValue.lean ====
/-
  The reference's distances and indices over the extended reals: the distance of each row to each codebook entry, and
  the first nearest position of each row.
-/
module

public import proofs.«01_k».proof.Proof.RefRun
public import proofs.«01_k».proof.Proof.Spec
public import Idealize.ShloMosaic.Lib.StackMember

@[expose] public section

set_option maxRecDepth 16384

noncomputable section

namespace Cert.ReferenceIdeal.Value

open Idealize.ShloMosaic Cert.ReferenceIdeal Cert.ReferenceIdeal.Gen Cert.Proof.VQ

/-- The rows as a table. -/
abbrev rowsOf (z : FVec Ideal S8x1024x64 .f32) : Rows64 := shapeCast S8192x64 z shapeCasts_S8x1024x64_S8192x64

/-- The squared norm of each row, spread over the columns. -/
theorem colSpread_apply (x : FVec Ideal S8192 .f32) (r j : Fin 8192) :
    broadcastInDim S8192x8192 ![0, 1] bcast_S8192x1_S8192x8192_0_1 (broadcastInDim S8192x1 ![0] bcast_S8192_S8192x1_0 x) (ix2 r j)
      = x (ix1 r) := by
  refine (broadcastInDim_apply _ _ _ _ (ix2 r (0 : Fin 1)) (fun a => by fin_cases a <;> rfl)).trans ?_
  exact broadcastInDim_apply _ _ _ _ (ix1 r) (fun a => by fin_cases a; rfl)

/-- The squared norm of each entry, spread over the rows. -/
theorem rowSpread_apply (x : FVec Ideal S8192 .f32) (r j : Fin 8192) :
    broadcastInDim S8192x8192 ![0, 1] bcast_S1x8192_S8192x8192_0_1 (broadcastInDim S1x8192 ![1] bcast_S8192_S1x8192_1 x) (ix2 r j)
      = x (ix1 j) := by
  refine (broadcastInDim_apply _ _ _ _ (ix2 (0 : Fin 1) j) (fun a => by fin_cases a <;> rfl)).trans ?_
  exact broadcastInDim_apply _ _ _ _ (ix1 j) (fun a => by fin_cases a; rfl)

/-- The products of the rows with the codebook's entries. -/
theorem dot_apply (x cb : FVec Ideal S8192x64 .f32) (r j : Fin 8192) :
    Host.dotGeneral dot_S8192x64_S64x8192_S8192x8192_1_0_0_1_n_n none x (transpose S64x8192 [1, 0] cb transposes_S8192x64_S64x8192_1_0) (ix2 r j)
      = ∑ k : Fin 64, x (ix2 r k) * cb (ix2 j k) := by
  refine (StackMember.dotGeneral_plain_apply (m := 8192) (n := 8192) (k := 64) none x
    (transpose S64x8192 [1, 0] cb transposes_S8192x64_S64x8192_1_0) r j).trans ?_
  refine Finset.sum_congr rfl fun k _ => congrArg (x (ix2 r k) * ·) ?_
  exact transpose_apply [1, 0] cb _ _ (ix2 j k) (fun b => by fin_cases b <;> rfl)

/-- The reference's distances. -/
theorem dist_apply (z : FVec Ideal S8x1024x64 .f32) (cb : FVec Ideal S8192x64 .f32) (r j : Fin 8192) :
    distOf z cb (ix2 r j) = dist2 (rowsOf z) cb r j := by
  refine congrArg₂ (fun a b : EReal => a - b) (congrArg₂ (fun a b : EReal => a + b) ?_ ?_) (congrArg₂ (fun a b : EReal => a * b) ?_ ?_)
  · exact (colSpread_apply _ r j).trans (rowSum_apply _ _ _ r)
  · exact (rowSpread_apply _ r j).trans (rowSum_apply _ _ _ j)
  · exact broadcastInDim_apply _ _ _ _ ix0 (fun a => a.elim0)
  · exact dot_apply _ _ r j

/-! ## The position of the least distance -/

/-- The comparison keeps the pair that is no later, by value and then by position. -/
theorem reducer_eq (p q : EReal × BitVec 32) :
    reducer_argmin_f32_i32 (F := Ideal) p q = if p.1 < q.1 ∨ (p.1 = q.1 ∧ p.2.toInt < q.2.toInt) then p else q := by
  obtain ⟨a, i⟩ := p
  obtain ⟨b, k⟩ := q
  have h1 : FloatOps.cmpf (F := Ideal) (φ := .f32) .olt a b = BitVec.ofBool (decide (a < b)) := rfl
  have h2 : FloatOps.cmpf (F := Ideal) (φ := .f32) .une a a = BitVec.ofBool (decide (a ≠ a)) := rfl
  have h3 : FloatOps.cmpf (F := Ideal) (φ := .f32) .oeq a b = BitVec.ofBool (decide (a = b)) := rfl
  have h4 : IntOp.cmpi .slt i k = BitVec.ofBool (decide (i.toInt < k.toInt)) := rfl
  unfold reducer_argmin_f32_i32
  simp only [h1, h2, h3, h4]
  by_cases hlt : a < b
  · have hne : a ≠ b := hlt.ne
    simp [hlt, hne, IntOp.ori, IntOp.andi, Scalar.select]
  · by_cases heq : a = b
    · subst heq
      by_cases hi : i.toInt < k.toInt <;> simp [hi, IntOp.ori, IntOp.andi, Scalar.select]
    · simp [hlt, heq, IntOp.ori, IntOp.andi, Scalar.select]

theorem reducer_mem (p q : EReal × BitVec 32) : reducer_argmin_f32_i32 (F := Ideal) p q = p ∨ reducer_argmin_f32_i32 (F := Ideal) p q = q := by
  rw [reducer_eq]; split_ifs
  · exact Or.inl rfl
  · exact Or.inr rfl

theorem reducer_left (p q : EReal × BitVec 32) : PairLe (reducer_argmin_f32_i32 (F := Ideal) p q) p := by
  rw [reducer_eq]; split_ifs with h
  · exact PairLe.refl p
  · rcases lt_trichotomy p.1 q.1 with hl | he | hg
    · exact absurd (Or.inl hl) h
    · exact Or.inr ⟨he.symm, not_lt.mp fun hi => h (Or.inr ⟨he, hi⟩)⟩
    · exact Or.inl hg

theorem reducer_right (p q : EReal × BitVec 32) : PairLe (reducer_argmin_f32_i32 (F := Ideal) p q) q := by
  rw [reducer_eq]; split_ifs with h
  · rcases h with h | ⟨h, hi⟩
    · exact Or.inl h
    · exact Or.inr ⟨h, hi.le⟩
  · exact PairLe.refl q

/-- The pairs of a row: its distances with their positions. -/
theorem mem_fiber (d : FVec Ideal S8192x8192 .f32) (r : Fin 8192) (p : EReal × BitVec 32) :
    p ∈ Host.argReduceFiber d (iotaInDim S8192x8192 32 1) reducesTo_S8192x8192_S8192_d1 (ix1 r)
      ↔ ∃ j : Fin 8192, p = (d (ix2 r j), BitVec.ofNat 32 j.val) := by
  have hd : ∀ i : S8192x8192.Idx, reducesTo_S8192x8192_S8192_d1.drop i = ix1 r ↔ i 0 = r := by
    intro i
    constructor
    · intro h
      have := congrArg Fin.val (congrFun h 0)
      exact Fin.ext this
    · intro h
      funext a
      obtain rfl : a = 0 := Subsingleton.elim _ _
      exact Fin.ext (congrArg Fin.val h)
  unfold Host.argReduceFiber
  rw [List.mem_map]
  constructor
  · rintro ⟨n, hn, rfl⟩
    have hn' := (hd _).mp (by simpa using (List.mem_filter.mp hn).2)
    refine ⟨(S8192x8192.rowMajor.symm n) 1, ?_⟩
    have e : S8192x8192.rowMajor.symm n = ix2 r ((S8192x8192.rowMajor.symm n) 1) := by
      refine (eq_ix2 (S8192x8192.rowMajor.symm n)).trans ?_
      exact congrArg (fun a : Fin 8192 => ix2 a ((S8192x8192.rowMajor.symm n) 1)) hn'
    refine Prod.ext ?_ rfl
    exact congrArg d e
  · rintro ⟨j, rfl⟩
    refine ⟨S8192x8192.rowMajor (ix2 r j), List.mem_filter.mpr ⟨List.mem_finRange _, ?_⟩, ?_⟩
    · simpa using (hd _).mpr (by simp; rfl)
    · rw [Equiv.symm_apply_apply]; rfl

/-- A pass over the pairs (distance, position) of all positions, started at `+∞`, ends at the first nearest position. -/
theorem foldl_arg (L : List (EReal × BitVec 32)) (D : Fin 8192 → EReal) (i₀ : BitVec 32)
    (hL : ∀ p, p ∈ L ↔ ∃ j : Fin 8192, p = (D j, BitVec.ofNat 32 j.val)) (hfin : ∀ j, D j < ⊤) :
    (L.foldl (reducer_argmin_f32_i32 (F := Ideal)) ((⊤ : EReal), i₀)).2 = BitVec.ofNat 32 (near D).val := by
  have hfold := foldl_least (reducer_argmin_f32_i32 (F := Ideal)) reducer_mem reducer_left reducer_right L ((⊤ : EReal), i₀)
  generalize L.foldl (reducer_argmin_f32_i32 (F := Ideal)) ((⊤ : EReal), i₀) = p at hfold ⊢
  obtain ⟨hmem, -, hle⟩ := hfold
  have hin : ∃ a : Fin 8192, p = (D a, BitVec.ofNat 32 a.val) := by
    rcases hmem with h | h
    · exfalso
      rcases hle _ ((hL _).mpr ⟨near D, rfl⟩) with h' | ⟨h', -⟩
      · rw [h] at h'; exact not_top_lt h'
      · rw [h] at h'; exact absurd h'.symm (hfin _).ne
    · exact (hL p).mp h
  obtain ⟨a, rfl⟩ := hin
  refine congrArg (fun n : Fin 8192 => BitVec.ofNat 32 n.val) (eq_near fun j => ?_)
  rcases hle _ ((hL _).mpr ⟨j, rfl⟩) with h | ⟨h, hi⟩
  · exact Or.inl h
  · refine Or.inr ⟨h, ?_⟩
    have ha := toInt_ofNat_small (n := a.val) (Nat.lt_trans a.isLt (by norm_num))
    have hj := toInt_ofNat_small (n := j.val) (Nat.lt_trans j.isLt (by norm_num))
    rw [ha, hj] at hi
    exact Fin.le_def.mpr (Int.ofNat_le.mp hi)

/-- A reduction of values with their positions, over the extended reals: the pass over the group's pairs. -/
theorem argReduce_foldl {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel)
    (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

/-- The word of `+∞`. -/
theorem word_top : Ideal.ofBits .f32 0x7F800000#32 = (⊤ : EReal) := by simp [Ideal.ofBits, Ideal.ieee]

/-- The same pass, started at the reference's two initial words. -/
theorem foldl_words (L : List (EReal × BitVec 32)) (D : Fin 8192 → EReal)
    (hL : ∀ p, p ∈ L ↔ ∃ j : Fin 8192, p = (D j, BitVec.ofNat 32 j.val)) (hfin : ∀ j, D j < ⊤) :
    (L.foldl (reducer_argmin_f32_i32 (F := Ideal))
      (constant (F := Ideal) S_ .f32 0x7F800000#32 (Shape.Idx.first h_S_), constantI S_ 32 0#32 (Shape.Idx.first h_S_))).2
      = BitVec.ofNat 32 (near D).val := by
  have e : constant (F := Ideal) S_ .f32 0x7F800000#32 (Shape.Idx.first h_S_) = (⊤ : EReal) := word_top
  rw [e]
  exact foldl_arg L D _ hL hfin

end Cert.ReferenceIdeal.Value
-- ==== Proof.RefIndex.lean ====
/-
  The reference's indices over the extended reals: the first nearest position of each row.
-/
module

public import proofs.«01_k».proof.Proof.RefValue

@[expose] public section

set_option maxRecDepth 16384

noncomputable section

namespace Cert.ReferenceIdeal.Value

open Idealize.ShloMosaic Cert.ReferenceIdeal Cert.ReferenceIdeal.Gen Cert.Proof.VQ

/-- A reduction of values with their positions by the reference's comparison, started at `+∞`, over a group holding each
    position's pair once: the first nearest position. -/
theorem argReduce_near {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx) (D : Fin 8192 → EReal)
    (hix : ix (Shape.Idx.first hu) = (⊤ : EReal))
    (hL : ∀ p, p ∈ Host.argReduceFiber x y h j ↔ ∃ k : Fin 8192, p = (D k, BitVec.ofNat 32 k.val)) (hfin : ∀ k, D k < ⊤) :
    (Host.argReduce reducer_argmin_f32_i32 x y ix iy h hu j).2 = BitVec.ofNat 32 (near D).val := by
  rw [argReduce_foldl, hix]
  exact foldl_arg _ D _ hL hfin

/-- The reference's index of a row whose distances are below `+∞`: the first nearest position. -/
theorem arg_apply (d : FVec Ideal S8192x8192 .f32) (r : Fin 8192) (hfin : ∀ j, d (ix2 r j) < ⊤) :
    argOf d (ix1 r) = BitVec.ofNat 32 (near fun j => d (ix2 r j)).val :=
  (congrFun (argOf_eq d) (ix1 r)).trans (argReduce_near d (iotaInDim S8192x8192 32 1) (constant S_ .f32 0x7F800000#32) (constantI S_ 32 0#32)
    reducesTo_S8192x8192_S8192_d1 h_S_ (ix1 r) (fun j => d (ix2 r j)) word_top (mem_fiber d r) hfin)

/-- The reference's index of a row, from the arguments. -/
theorem index_apply (z : FVec Ideal S8x1024x64 .f32) (cb : FVec Ideal S8192x64 .f32)
    (hD : ∀ r j, dist2 (rowsOf z) cb r j < ⊤) (r : Fin 8192) :
    indexOf z cb (ix1 r) = BitVec.ofNat 32 (near (dist2 (rowsOf z) cb r)).val := by
  have e : (fun j => distOf z cb (ix2 r j)) = dist2 (rowsOf z) cb r := funext fun j => dist_apply z cb r j
  rw [← e]
  exact arg_apply _ r fun j => (dist_apply z cb r j).symm ▸ hD r j

end Cert.ReferenceIdeal.Value
-- ==== Proof.Lookup.lean ====
/-
  The codebook's rows at positions inside it: the lookup reads the row of that position. Any float meaning.
-/
module

public import proofs.«01_k».proof.Proof.RefRun
public import proofs.«01_k».proof.Proof.Nearest
public import Idealize.ShloMosaic.Lib.Pointwise.Index
public import Idealize.ShloMosaic.Lib.Pipeline.Value

@[expose] public section

set_option maxRecDepth 16384

noncomputable section

namespace Cert.ReferenceIdeal.Value

open Idealize.ShloMosaic Cert.ReferenceIdeal Cert.ReferenceIdeal.Gen Cert.Proof.VQ

variable {F : FTy → Type} [FloatOps F]

/-- Below `8192` a word is not negative. -/
theorem word_not_neg (n : Fin 8192) : IntOp.cmpi .slt (BitVec.ofNat 32 n.val) 0#32 = 0#1 := by
  have h := toInt_ofNat_small (n := n.val) (Nat.lt_trans n.isLt (by norm_num))
  have e : IntOp.cmpi .slt (BitVec.ofNat 32 n.val) 0#32 = BitVec.ofBool (decide ((BitVec.ofNat 32 n.val).toInt < (0#32).toInt)) := rfl
  have h' : (0#32).toInt = 0 := rfl
  rw [e, h, h', decide_eq_false (by omega)]
  rfl

/-- Below `8192` a word is at least `0`. -/
theorem word_ge (n : Fin 8192) : IntOp.cmpi .sge (BitVec.ofNat 32 n.val) 0#32 = 1#1 := by
  have h := toInt_ofNat_small (n := n.val) (Nat.lt_trans n.isLt (by norm_num))
  have e : IntOp.cmpi .sge (BitVec.ofNat 32 n.val) 0#32 = BitVec.ofBool (decide ((0#32).toInt ≤ (BitVec.ofNat 32 n.val).toInt)) := rfl
  have h' : (0#32).toInt = 0 := rfl
  rw [e, h, h', decide_eq_true (by omega)]
  rfl

/-- Below `8192` a word is at most `8191`. -/
theorem word_le (n : Fin 8192) : IntOp.cmpi .sle (BitVec.ofNat 32 n.val) 8191#32 = 1#1 := by
  have h := toInt_ofNat_small (n := n.val) (Nat.lt_trans n.isLt (by norm_num))
  have e : IntOp.cmpi .sle (BitVec.ofNat 32 n.val) 8191#32 = BitVec.ofBool (decide ((BitVec.ofNat 32 n.val).toInt ≤ (8191#32).toInt)) := rfl
  have h' : (8191#32).toInt = 8191 := rfl
  rw [e, h, h', decide_eq_true (by have := n.isLt; omega)]
  rfl

/-- Every word `1` under `and`, from `1`. -/
theorem fold_ones {ι : Type} (L : List ι) (f : ι → BitVec 1) (hf : ∀ i, f i = 1#1) : L.foldl (fun r i => IntOp.andi r (f i)) 1#1 = 1#1 := by
  induction L with
  | nil => rfl
  | cons i L ih =>
    rw [List.foldl_cons, hf i]
    exact ih

section
variable (ix : IVec S8192 32) (a : Fin 8192 → Fin 8192) (hix : ∀ r, ix (ix1 r) = BitVec.ofNat 32 (a r).val)
include hix

/-- The position the lookup reads for row `r`. -/
theorem lookup_apply (r : Fin 8192) (u : Fin 1) : lookupOf ix (ix2 r u) = BitVec.ofNat 32 (a r).val := by
  refine (broadcastInDim_apply _ _ _ _ (ix1 r) (fun b => by fin_cases b; rfl)).trans ?_
  show Scalar.select (IntOp.cmpi .slt (ix (ix1 r)) 0#32) (IntOp.addi (ix (ix1 r)) 8192#32) (ix (ix1 r)) = _
  rw [hix r, word_not_neg]
  rfl

/-- Every lookup is inside the codebook. -/
theorem inside_apply (j : S8192.Idx) : insideOf (lookupOf ix) j = 1#1 := by
  unfold insideOf
  refine (Host.reduce_eq_foldl _ _ _ _ _ _).trans ?_
  refine fold_ones _ _ fun i => ?_
  have e : lookupOf ix i = BitVec.ofNat 32 (a (i 0)).val :=
    (congrArg (lookupOf ix) (eq_ix2 i)).trans (lookup_apply ix a hix (i 0) (i 1))
  show IntOp.andi (IntOp.cmpi .sge (lookupOf ix i) 0#32) (IntOp.cmpi .sle (lookupOf ix i) 8191#32) = 1#1
  rw [e, word_ge, word_le]
  rfl

end

/-- The row read for result row `r` at the starting position `p`, inside the table. -/
theorem gather_row (cb : FVec F S8192x64 .f32) (p : IVec S8192x1 32) (r : Fin 8192) (k : Fin 64) (n : Fin 8192)
    (hp : p (ix2 r (0 : Fin 1)) = BitVec.ofNat 32 n.val) :
    Host.gather gather_S8192x64_S8192x1_S8192x64_1_0_n_n_0_1_164 cb p (ix2 r k) = cb (ix2 n k) := by
  have hn : (BitVec.ofNat 32 n.val).toInt = (n.val : Int) := toInt_ofNat_small (Nat.lt_trans n.isLt (by norm_num))
  unfold Host.gather
  congr 1
  funext b
  refine Fin.ext ?_
  generalize hd : gather_S8192x64_S8192x1_S8192x64_1_0_n_n_0_1_164 = d
  show d.start (ix2 r k) p b + d.batchCoord (ix2 r k) b + d.offCoord (ix2 r k) b = _
  rw [GatherDims.batchCoord_eq_zero _ _ _ (by rw [← hd]; exact List.not_mem_nil)]
  have h01 : b = 0 ∨ b = 1 := by
    match b with
    | ⟨0, _⟩ => exact Or.inl rfl
    | ⟨1, _⟩ => exact Or.inr rfl
  subst hd
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x64_S8192x1_S8192x64_1_0_n_n_0_1_164.startIndexMap from List.mem_singleton.mpr rfl)]
    have hsi : gather_S8192x64_S8192x1_S8192x64_1_0_n_n_0_1_164.siIdx (ix2 r k)
        ⟨List.idxOf (0 : Fin 2) gather_S8192x64_S8192x1_S8192x64_1_0_n_n_0_1_164.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, hp, hn]
    show min (n.val : Int).toNat 8191 = n.val
    have := n.isLt
    rw [Int.toNat_natCast]
    omega
  · unfold GatherDims.start
    rw [dif_neg (show (1 : Fin 2) ∉ gather_S8192x64_S8192x1_S8192x64_1_0_n_n_0_1_164.startIndexMap from by
      intro h; exact absurd (List.mem_singleton.mp h) (by decide))]
    unfold GatherDims.offCoord
    rw [dif_pos ((GatherDims.mem_sKept _ _).mpr ⟨fun h => absurd (List.mem_singleton.mp h) (by decide), List.not_mem_nil⟩)]
    rw [Nat.zero_add]
    rfl

/-- The lookup reads the codebook's row at each position. -/
theorem take_apply (cb : FVec F S8192x64 .f32) (ix : IVec S8192 32) (a : Fin 8192 → Fin 8192)
    (hix : ∀ r, ix (ix1 r) = BitVec.ofNat 32 (a r).val) (r : Fin 8192) (k : Fin 64) :
    takeOf cb ix (ix2 r k) = cb (ix2 (a r) k) := by
  have hm : broadcastInDim S8192x64 ![0] bcast_S8192_S8192x64_0 (insideOf (lookupOf ix)) (ix2 r k) = 1#1 :=
    (broadcastInDim_apply _ _ _ _ (ix1 r) (fun b => by fin_cases b; rfl)).trans (inside_apply ix a hix (ix1 r))
  refine (ValueIdx.select_apply _ _ _ _).trans ?_
  rw [hm]
  exact gather_row cb _ r k (a r) (lookup_apply ix a hix r 0)

end Cert.ReferenceIdeal.Value
-- ==== Proof.Finite.lean ====
/-
  Rows of real numbers: the distance of two rows is the sum of the squared differences, and it is below `+∞`. The
  precondition says exactly that both arguments hold real numbers.
-/
module

public import proofs.«01_k».proof.Proof.Spec

@[expose] public section

set_option maxRecDepth 16384

noncomputable section

namespace Cert.Proof.VQ

open Idealize.ShloMosaic

/-- Every number of the array is real. -/
def AllReal {S : Shape} (x : S.Idx → EReal) : Prop := ∀ i, ∃ v : ℝ, x i = (v : EReal)

/-- A number whose absolute value is below `+∞` is real. -/
theorem real_of_abs {v : EReal} (h : max v (-v) < ⊤) : ∃ a : ℝ, v = (a : EReal) := by
  induction v using EReal.rec with
  | bot => simp at h
  | coe a => exact ⟨a, rfl⟩
  | top => simp at h

/-- The compare the precondition makes of each number. -/
theorem real_of_word {v : EReal}
    (h : FloatOps.cmpf (F := Ideal) (φ := .f32) .olt (FloatOps.hostAbsf (F := Ideal) (φ := .f32) v) (Ideal.ofBits .f32 0x7F800000#32) = 1#1) :
    ∃ a : ℝ, v = (a : EReal) := by
  have ht : Ideal.ofBits .f32 0x7F800000#32 = (⊤ : EReal) := by simp [Ideal.ofBits, Ideal.ieee]
  have e : FloatOps.cmpf (F := Ideal) (φ := .f32) .olt (FloatOps.hostAbsf (F := Ideal) (φ := .f32) v) (⊤ : EReal)
      = BitVec.ofBool (decide (max v (-v) < ⊤)) := rfl
  rw [ht, e] at h
  by_cases hv : max v (-v) < ⊤
  · exact real_of_abs hv
  · rw [decide_eq_false hv] at h; exact absurd h (by decide)

/-- The word of `2`. -/
theorem word_two : Ideal.ofBits .f32 0x40000000#32 = ((2 : ℝ) : EReal) := by
  simp [Ideal.ofBits, Ideal.ieee]; norm_num; rw [← EReal.coe_mul]; norm_num

/-- The word of `5/4`. -/
theorem word_five_quarters : Ideal.ofBits .f32 0x3FA00000#32 = ((5 / 4 : ℝ) : EReal) := by
  simp [Ideal.ofBits, Ideal.ieee]; norm_num; rw [← EReal.coe_mul]; norm_num

/-- The word of `1/4`. -/
theorem word_quarter : Ideal.ofBits .f32 0x3E800000#32 = ((1 / 4 : ℝ) : EReal) := by
  simp [Ideal.ofBits, Ideal.ieee]; norm_num; rw [← EReal.coe_mul]; norm_num

/-- The word of `524288`. -/
theorem word_count : Ideal.ofBits .f32 0x49000000#32 = ((524288 : ℝ) : EReal) := by
  simp [Ideal.ofBits, Ideal.ieee]; norm_num; rw [← EReal.coe_mul]; norm_num

/-- A sum of real numbers. -/
theorem coe_sum {ι : Type} [Fintype ι] (f : ι → ℝ) : ∑ i, ((f i : ℝ) : EReal) = ((∑ i, f i : ℝ) : EReal) := by
  induction (Finset.univ : Finset ι) using Finset.cons_induction with
  | empty => simp
  | cons a s ha ih => rw [Finset.sum_cons, Finset.sum_cons, ih, EReal.coe_add]

/-- The squared difference of two rows, number by number. -/
def diffSq (z cb : Rows64) (r j : Fin 8192) : EReal := ∑ k : Fin 64, (z (ix2 r k) - cb (ix2 j k)) * (z (ix2 r k) - cb (ix2 j k))

/-- For rows of real numbers the distance and the sum of the squared differences are one real number. -/
theorem dist2_eq {z cb : Rows64} (hz : AllReal z) (hc : AllReal cb) (r j : Fin 8192) :
    ∃ v : ℝ, dist2 z cb r j = (v : EReal) ∧ diffSq z cb r j = (v : EReal) := by
  choose x hx using hz
  choose y hy using hc
  refine ⟨∑ k : Fin 64, (x (ix2 r k) - y (ix2 j k)) * (x (ix2 r k) - y (ix2 j k)), ?_, ?_⟩
  · unfold dist2 sq
    simp only [hx, hy, word_two, ← EReal.coe_mul]
    rw [coe_sum, coe_sum, coe_sum, ← EReal.coe_add, ← EReal.coe_mul, ← EReal.coe_sub]
    refine congrArg Real.toEReal ?_
    rw [Finset.mul_sum, ← Finset.sum_add_distrib, ← Finset.sum_sub_distrib]
    exact Finset.sum_congr rfl fun k _ => by ring
  · unfold diffSq
    simp only [hx, hy, ← EReal.coe_sub, ← EReal.coe_mul]
    exact coe_sum _

/-- The distances of rows of real numbers are below `+∞`. -/
theorem dist2_lt_top {z cb : Rows64} (hz : AllReal z) (hc : AllReal cb) (r j : Fin 8192) : dist2 z cb r j < ⊤ := by
  obtain ⟨v, hv, -⟩ := dist2_eq hz hc r j
  rw [hv]; exact EReal.coe_lt_top v

/-- The total of real numbers, scaled: five quarters of it over the count is a quarter of its mean plus its mean. -/
theorem scale_eq {s : EReal} (hs : ∃ v : ℝ, s = (v : EReal)) :
    Ideal.div (Ideal.ofBits .f32 0x3FA00000#32 * s) (Ideal.ofBits .f32 0x49000000#32)
      = Ideal.ofBits .f32 0x3E800000#32 * Ideal.div s (Ideal.ofBits .f32 0x49000000#32) + Ideal.div s (Ideal.ofBits .f32 0x49000000#32) := by
  obtain ⟨v, rfl⟩ := hs
  rw [word_five_quarters, word_quarter, word_count, Ideal.div_coe (by norm_num), Ideal.div_coe (by norm_num),
    ← EReal.coe_mul, ← EReal.coe_mul, ← EReal.coe_mul, ← EReal.coe_mul, ← EReal.coe_add]
  refine congrArg Real.toEReal ?_
  ring

end Cert.Proof.VQ
-- ==== Proof.Tail.lean ====
/-
  The kernel's host operations after its grid: the three results as functions of the two arguments and the grid's two
  arrays. Any float meaning.
-/
module

public import proofs.«01_k».proof.Proof.RefRun
public import proofs.«01_k».proof.Proof.Gen.KernelIdeal.Frame

@[expose] public section

set_option maxRecDepth 16384

noncomputable section

namespace Cert.KernelIdeal.Value

open Idealize.ShloMosaic Idealize.ShloMosaic.TcCoe Idealize.SL.Sem
open Cert.KernelIdeal Cert.KernelIdeal.Gen Idealize.ShloMosaic.StableHlo
open Cert.ReferenceIdeal.Value (takeOf)

variable {F : FTy → Type} [FloatOps F]

/-- Two stretches run one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The loss, from the array of minima. -/
def lossOf (mn : FVec F S8192x1 .f32) : FVec F S_ .f32 :=
  shapeCast S_ (Host.divf (mulf (constant S_ .f32 0x3FA00000#32)
    (Host.reduceAdd mn (constant S_ .f32 0x00000000#32) reducesTo_S8192x1_S_d0_1 h_S_)) (constant S_ .f32 0x49000000#32)) shapeCasts_S_S_

section Stretches
variable (V : Valuation τ sig (Elt F))

theorem flat_v8 : after hostOps1 V (Proc.devRef .tc main_v8)
    = shapeCast S8192 (V (Proc.devRef .tc main_v7_0) : IVec S8192x1 32) shapeCasts_S8192x1_S8192 := by
  after_results_simp; rfl
theorem flat_v7_1 : after hostOps1 V (Proc.devRef .tc main_v7_1) = V (Proc.devRef .tc main_v7_1) := by after_results_simp
theorem flat_arg0 : after hostOps1 V (Proc.devRef .tc main_arg0) = V (Proc.devRef .tc main_arg0) := by after_results_simp
theorem flat_arg1 : after hostOps1 V (Proc.devRef .tc main_arg1) = V (Proc.devRef .tc main_arg1) := by after_results_simp

theorem take_v9 : after hostOps1_1 V (Proc.devRef .tc main_v9)
    = (takeOf (V (Proc.devRef .tc main_arg1) : FVec F S8192x64 .f32) (V (Proc.devRef .tc main_v8) : IVec S8192 32) : FVec F S8192x64 .f32) := by
  after_results_simp; rfl
theorem take_v8 : after hostOps1_1 V (Proc.devRef .tc main_v8) = V (Proc.devRef .tc main_v8) := by after_results_simp
theorem take_v7_1 : after hostOps1_1 V (Proc.devRef .tc main_v7_1) = V (Proc.devRef .tc main_v7_1) := by after_results_simp
theorem take_arg0 : after hostOps1_1 V (Proc.devRef .tc main_arg0) = V (Proc.devRef .tc main_arg0) := by after_results_simp

theorem end_v12 : after hostOps1_2 V (Proc.devRef .tc main_v12)
    = addf (V (Proc.devRef .tc main_arg0) : FVec F S8x1024x64 .f32)
        (subf (shapeCast S8x1024x64 (V (Proc.devRef .tc main_v9) : FVec F S8192x64 .f32) shapeCasts_S8192x64_S8x1024x64)
          (V (Proc.devRef .tc main_arg0) : FVec F S8x1024x64 .f32)) := by
  after_results_simp; rfl
theorem end_v16 : after hostOps1_2 V (Proc.devRef .tc main_v16) = lossOf (V (Proc.devRef .tc main_v7_1)) := by
  after_results_simp; rfl
theorem end_v17 : after hostOps1_2 V (Proc.devRef .tc main_v17)
    = shapeCast S8x1024 (V (Proc.devRef .tc main_v8) : IVec S8192 32) shapeCasts_S8192_S8x1024 := by
  after_results_simp; rfl

end Stretches

section Whole
variable (m : (ℓ : Loc nD τ sig) → Buf (Elt F) ℓ) (ρ : Dev nD → PrngReg)

/-- The grid's index array. -/
abbrev ixArr (c : Dev nD) : IVec S8192x1 32 := (dats m 0 c).arrAt 4 cfg0.N
/-- The grid's array of minima. -/
abbrev mnArr (c : Dev nD) : FVec F S8192x1 .f32 := (dats m 0 c).arrAt 5 cfg0.N

/-- The indices of the nearest entries as a vector. -/
def flatIx (c : Dev nD) : IVec S8192 32 := shapeCast S8192 (ixArr m c) shapeCasts_S8192x1_S8192

theorem arr_inj : Function.Injective (Pipeline.arrRef spec0) := by decide

theorem tail_eq (c : Dev nD) (b : Ref sig .tc) :
    Pipeline.afterTail₀ cfgs (dats m) 0 (V0 m) [hostOps1, hostOps1_1, hostOps1_2] c b
      = after hostOps1_2 (after hostOps1_1 (after hostOps1
          (Pipeline.withArrays spec0 c (V0 m c) fun w => (dats m 0 c).arrAt w cfg0.N))) (Proc.devRef .tc b) := by
  unfold Pipeline.afterTail₀
  rw [List.flatten_cons, List.flatten_cons, List.flatten_cons, List.flatten_nil, List.append_nil, after_two, after_two]

theorem entry_v7_0 (c : Dev nD) : Pipeline.withArrays spec0 c (V0 m c) (fun w => (dats m 0 c).arrAt w cfg0.N) (Proc.devRef .tc main_v7_0) = ixArr m c :=
  Pipeline.withArrays_arr spec0 arr_inj c (V0 m c) (fun w => (dats m 0 c).arrAt w cfg0.N) 4

theorem entry_v7_1 (c : Dev nD) : Pipeline.withArrays spec0 c (V0 m c) (fun w => (dats m 0 c).arrAt w cfg0.N) (Proc.devRef .tc main_v7_1) = mnArr m c :=
  Pipeline.withArrays_arr spec0 arr_inj c (V0 m c) (fun w => (dats m 0 c).arrAt w cfg0.N) 5

theorem entry_arg0 (c : Dev nD) : Pipeline.withArrays spec0 c (V0 m c) (fun w => (dats m 0 c).arrAt w cfg0.N) (Proc.devRef .tc main_arg0)
    = m ((c : Thread nD τ).loc main_arg0) :=
  (Pipeline.withArrays_of_ne spec0 c (V0 m c) (fun w => (dats m 0 c).arrAt w cfg0.N) main_arg0
    (by exact (by decide : ∀ w, Pipeline.arrRef spec0 w ≠ main_arg0))).trans (V_main_arg0 m c)

theorem entry_arg1 (c : Dev nD) : Pipeline.withArrays spec0 c (V0 m c) (fun w => (dats m 0 c).arrAt w cfg0.N) (Proc.devRef .tc main_arg1)
    = m ((c : Thread nD τ).loc main_arg1) :=
  (Pipeline.withArrays_arr spec0 arr_inj c (V0 m c) (fun w => (dats m 0 c).arrAt w cfg0.N) 1).trans
    (((dats m 0 c).arrAt_in 1 rfl _).trans ((A_eq m c 1).trans (V_main_arg1 m c)))

/-- Every run of the kernel ends, with the three results at these functions of the arguments and of the grid's two
    arrays, and the arguments unchanged. -/
theorem run : θ_run defs (onTc (τ := τ) (main (F := F))) ⟨m, fun _ => 0, ρ⟩ fun r => ∀ c : Dev nD,
      r.2.mem ((c.tc : Thread nD τ).loc main_v12)
        = addf (m ((c.tc : Thread nD τ).loc main_arg0) : FVec F S8x1024x64 .f32)
            (subf (shapeCast S8x1024x64 (takeOf (m ((c.tc : Thread nD τ).loc main_arg1)) (flatIx m c) : FVec F S8192x64 .f32) shapeCasts_S8192x64_S8x1024x64)
              (m ((c.tc : Thread nD τ).loc main_arg0) : FVec F S8x1024x64 .f32))
      ∧ r.2.mem ((c.tc : Thread nD τ).loc main_v16) = lossOf (mnArr m c)
      ∧ r.2.mem ((c.tc : Thread nD τ).loc main_v17) = shapeCast S8x1024 (flatIx m c) shapeCasts_S8192_S8x1024
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_, ?_⟩) (run_main m ρ)
  · refine ((h c).2 main_v12 (Pipeline.mem_restRefs_of main_v12 (by decide) (by decide))).trans ?_
    rw [tail_eq, end_v12, take_v9, take_arg0, flat_v8, flat_arg0, flat_arg1, entry_v7_0, entry_arg0, entry_arg1]; rfl
  · refine ((h c).2 main_v16 (Pipeline.mem_restRefs_of main_v16 (by decide) (by decide))).trans ?_
    rw [tail_eq, end_v16, take_v7_1, flat_v7_1, entry_v7_1]
  · refine ((h c).2 main_v17 (Pipeline.mem_restRefs_of main_v17 (by decide) (by decide))).trans ?_
    rw [tail_eq, end_v17, take_v8, flat_v8, entry_v7_0]; rfl
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Whole

end Cert.KernelIdeal.Value
-- ==== Proof.BlockRun.lean ====
/-
  One run of the kernel's body, read as values: what the eight passes over the codebook leave in the two output blocks,
  as a function of the four input blocks alone. Any float meaning.
-/
module

public import proofs.«01_k».proof.Defs
public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL.Sem
open Cert.KernelIdeal.Gen

variable {F : FTy → Type} [FloatOps F]

theorem hz : (![0, 0] : Fin 2 → Nat) = fun _ => 0 := funext fun a => by fin_cases a <;> rfl

/-- The 1024 codebook rows the pass `k` reads. -/
def rows (x1 : Vec F S8192x64 .f32) (k : Fin k0_t1_loop.trips) : Vec F S1024x64 .f32 :=
  View.ld x1 (Rect.unit (s := S8192x64) (k0_off1 k) S1024x64.size (k0_off1_inb k))

/-- The 1024 codebook squared norms the pass `k` reads. -/
def norms (x3 : Vec F S1x8192 .f32) (k : Fin k0_t1_loop.trips) : Vec F S1x1024 .f32 :=
  View.ld x3 (Rect.unit (s := S1x8192) (k0_off2 k) S1x1024.size (k0_off2_inb k))

/-- One pass: the carried minimum and index, updated from the 1024 codebook rows of pass `k`. -/
def step (x0 : Vec F S1024x64 .f32) (x1 : Vec F S8192x64 .f32) (x2 : Vec F S1024x1 .f32) (x3 : Vec F S1x8192 .f32)
    (k : Fin k0_t1_loop.trips) (acc : FVec F S1024x1 .f32 × IVec S1024x1 32) : FVec F S1024x1 .f32 × IVec S1024x1 32 :=
  (k0_pay6 x0 x2 acc.1 (rows x1 k) (norms x3 k), k0_pay7 x0 x2 k acc.1 acc.2 (rows x1 k) (norms x3 k))

/-- The carried minimum and index before pass `n`. -/
def state (x0 : Vec F S1024x64 .f32) (x1 : Vec F S8192x64 .f32) (x2 : Vec F S1024x1 .f32) (x3 : Vec F S1x8192 .f32) :
    ℕ → FVec F S1024x1 .f32 × IVec S1024x1 32
  | 0 => (k0_pay1, k0_pay2)
  | n + 1 => if h : n < k0_t1_loop.trips then step x0 x1 x2 x3 ⟨n, h⟩ (state x0 x1 x2 x3 n) else state x0 x1 x2 x3 n

theorem state_succ (x0 : Vec F S1024x64 .f32) (x1 : Vec F S8192x64 .f32) (x2 : Vec F S1024x1 .f32) (x3 : Vec F S1x8192 .f32)
    (k : Fin k0_t1_loop.trips) : state x0 x1 x2 x3 (k.val + 1) = step x0 x1 x2 x3 k (state x0 x1 x2 x3 k.val) :=
  dif_pos k.isLt

section
variable (𝒱 : Variants) (c : Dev nD) (bd : Option 𝒱.V) (i : grid0.Coords)
  (a1 : Memref sig .tc .vmem S1024x64 .f32) (h1 : a1.IsWhole) (a2 : Memref sig .tc .vmem S8192x64 .f32) (h2 : a2.IsWhole)
  (a3 : Memref sig .tc .vmem S1024x1 .f32) (h3 : a3.IsWhole) (a4 : Memref sig .tc .vmem S1x8192 .f32) (h4 : a4.IsWhole)
  (a5 : Memref sig .tc .vmem S1024x1 .i32) (h5 : a5.IsWhole) (a6 : Memref sig .tc .vmem S1024x1 .f32) (h6 : a6.IsWhole)
  (x0 : Vec F S1024x64 .f32) (x1 : Vec F S8192x64 .f32) (x2 : Vec F S1024x1 .f32) (x3 : Vec F S1x8192 .f32)

/-- One trip of the loop yields one pass's update. -/
theorem trip_eq (k : Fin k0_t1_loop.trips) (acc : FVec F S1024x1 .f32 × IVec S1024x1 32) :
    tripR_k0_t1 (F := F) 𝒱 c bd i a1 h1 a2 h2 a3 h3 a4 h4 a5 h5 a6 h6 x0 x2 (h2.unread x1) (h4.unread x3) k acc
      = step x0 x1 x2 x3 k acc := by
  unfold tripR_k0_t1 trip_k0_t1
  dsimp only
  sl_unfold_words
  simp only [View.readAt_eq_ld, h2.read_unread, h4.read_unread]
  rfl

/-- The loop's carried value before trip `n`. -/
theorem st_eq (n : ℕ) (hn : n ≤ k0_t1_loop.trips) :
    st_k0_t1 (F := F) 𝒱 c bd i a1 h1 a2 h2 a3 h3 a4 h4 a5 h5 a6 h6 x0 x2 (h2.unread x1) (h4.unread x3) (k0_pay1, k0_pay2) n
      = state x0 x1 x2 x3 n := by
  induction n with
  | zero => rfl
  | succ n ih =>
    have hs := st_k0_t1_succ (F := F) 𝒱 c bd i a1 h1 a2 h2 a3 h3 a4 h4 a5 h5 a6 h6 x0 x2 (h2.unread x1) (h4.unread x3)
      (k0_pay1, k0_pay2) ⟨n, hn⟩
    rw [ih (Nat.le_of_succ_le hn), trip_eq] at hs
    exact hs.trans (state_succ x0 x1 x2 x3 ⟨n, hn⟩).symm

/-- The index block the body leaves. -/
theorem out_4 : out0_A_4 c i a1 h1 a2 h2 a3 h3 a4 h4 a5 h5 a6 h6 x0 x1 x2 x3 = (state x0 x1 x2 x3 k0_t1_loop.trips).2 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h3.read_unread, View.ld_unit_zero (S := S1024x64) hz,
    View.ld_unit_zero (S := S1024x1) hz]
  rw [st_eq _ _ _ _ _ _ _ _ _ _ _ _ _ _ _ _ _ _ _ _ _ (le_refl _)]

/-- The minimum block the body leaves. -/
theorem out_5 : out0_A_5 c i a1 h1 a2 h2 a3 h3 a4 h4 a5 h5 a6 h6 x0 x1 x2 x3 = (state x0 x1 x2 x3 k0_t1_loop.trips).1 := by
  unfold out0_A_5
  rw [View.read_writes_eq_canon _ _ _ (cover0_A_5 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h3.read_unread, View.ld_unit_zero (S := S1024x64) hz,
    View.ld_unit_zero (S := S1024x1) hz]
  rw [st_eq _ _ _ _ _ _ _ _ _ _ _ _ _ _ _ _ _ _ _ _ _ (le_refl _)]

end

end Cert.KernelIdeal.Value
-- ==== Proof.BlockValue.lean ====
/-
  What one run of the kernel's body leaves, over the extended reals: for each of the block's 1024 rows, the least of
  its 8192 distances and the first position that has it.
-/
module

public import proofs.«01_k».proof.Proof.BlockRun
public import proofs.«01_k».proof.Proof.Nearest
public import Idealize.ShloMosaic.Lib.MatmulPlain

@[expose] public section

set_option maxRecDepth 16384

noncomputable section

namespace Cert.KernelIdeal.Value

open Idealize.ShloMosaic Idealize.ShloMosaic.TcCoe
open Cert.KernelIdeal.Gen Cert.Proof.VQ

/-- Row `r`'s distance to codebook entry `j`, from the four input blocks: the row's squared norm plus the entry's,
    less twice their product. -/
def D (x0 : Vec Ideal S1024x64 .f32) (x1 : Vec Ideal S8192x64 .f32) (x2 : Vec Ideal S1024x1 .f32) (x3 : Vec Ideal S1x8192 .f32)
    (r : Fin 1024) (j : Fin 8192) : EReal :=
  (x2 (ix2 r (0 : Fin 1)) + x3 (ix2 (0 : Fin 1) j)) - Ideal.ofBits .f32 0x40000000#32 * ∑ k : Fin 64, x0 (ix2 r k) * x1 (ix2 j k)

theorem trips_eq : k0_t1_loop.trips = 8 := by decide +kernel

theorem off1_eq : ∀ k : Fin k0_t1_loop.trips, k0_off1 k 0 = 1024 * k.val ∧ k0_off1 k 1 = 0 := by decide +kernel

theorem off2_eq : ∀ k : Fin k0_t1_loop.trips, k0_off2 k 0 = 0 ∧ k0_off2 k 1 = 1024 * k.val := by decide +kernel

theorem base_eq : ∀ k : Fin k0_t1_loop.trips, Scalar.muli (Scf.iv 0#32 1#32 k.val) 1024#32 = BitVec.ofNat 32 (1024 * k.val) := by
  decide +kernel

/-- The codebook position of lane `l` of pass `k`. -/
def pos (k : Fin k0_t1_loop.trips) (l : Fin 1024) : Fin 8192 :=
  ⟨1024 * k.val + l.val, by have h := k.isLt; have e := trips_eq; have := l.isLt; omega⟩

theorem rows_apply (x1 : Vec Ideal S8192x64 .f32) (k : Fin k0_t1_loop.trips) (l : Fin 1024) (d : Fin 64) :
    rows x1 k (ix2 l d) = x1 (ix2 (pos k l) d) := by
  refine View.ld_unit_apply_of x1 _ _ _ _ _ fun a => ?_
  match a with
  | ⟨0, _⟩ => exact congrArg (· + l.val) (off1_eq k).1.symm
  | ⟨1, _⟩ => exact (Nat.zero_add _).symm.trans (congrArg (· + d.val) (off1_eq k).2.symm)

theorem norms_apply (x3 : Vec Ideal S1x8192 .f32) (k : Fin k0_t1_loop.trips) (l : Fin 1024) :
    norms x3 k (ix2 (0 : Fin 1) l) = x3 (ix2 (0 : Fin 1) (pos k l)) := by
  refine View.ld_unit_apply_of x3 _ _ _ _ _ fun a => ?_
  match a with
  | ⟨0, _⟩ => exact (Nat.zero_add _).symm.trans (congrArg (· + 0) (off2_eq k).1.symm)
  | ⟨1, _⟩ => exact congrArg (· + l.val) (off2_eq k).2.symm

section
variable (x0 : Vec Ideal S1024x64 .f32) (x1 : Vec Ideal S8192x64 .f32) (x2 : Vec Ideal S1024x1 .f32) (x3 : Vec Ideal S1x8192 .f32)
  (k : Fin k0_t1_loop.trips)

/-- The pass's tile of distances at row `r`, lane `l`. -/
theorem tile_apply (r l : Fin 1024) :
    k0_pay3 x0 x2 (rows x1 k) (norms x3 k) (ix2 r l) = D x0 x1 x2 x3 r (pos k l) := by
  unfold k0_pay3 D
  simp only [shapeCast_self]
  show (_ + _) - _ * _ = _
  rw [broadcastTo_apply x2 _ (ix2 r l) (ix2 r (0 : Fin 1)) (fun a => by fin_cases a <;> rfl),
    broadcastTo_apply (norms x3 k) _ (ix2 r l) (ix2 (0 : Fin 1) l) (fun a => by fin_cases a <;> rfl), norms_apply]
  have hm : matmul (φ₁ := .f32) (φ₂ := .f32) dot_S1024x64_S1024x64_S1024x1024_1_1_0_0_n_n none x0 (rows x1 k) (constant S1024x1024 .f32 0x00000000#32) (ix2 r l)
      = ∑ d : Fin 64, x0 (ix2 r d) * x1 (ix2 (pos k l) d) := by
    refine (Ideal.matmul_transposedRhs_apply (φ₁ := .f32) (φ₂ := .f32) none x0 (rows x1 k)
      (constant S1024x1024 .f32 0x00000000#32) r l).trans ?_
    refine (congrArg (· + _) Ideal.ofBits_zero_f32).trans ((zero_add _).trans (Finset.sum_congr rfl fun d _ => ?_))
    exact congrArg (x0 (ix2 r d) * ·) (rows_apply x1 k l d)
  rw [hm]
  rfl

theorem lift_ix (h : S1024x1024.Reduces [1] S1024) (r l : Fin 1024) : h.lift (ix1 r) l = ix2 r l := by
  funext a; apply Fin.ext
  match a with
  | ⟨0, _⟩ => rfl
  | ⟨1, _⟩ => rfl

theorem col_apply {α : Type} (v : S1024.Idx → α) (h : S1024.ShapeCasts S1024x1) (r : Fin 1024) :
    shapeCast S1024x1 v h (ix2 r (0 : Fin 1)) = v (ix1 r) :=
  shapeCast_apply _ _ _ _ (by
    rw [Shape.rowMajor_val_one, Shape.rowMajor_val_two]
    show r.val = r.val * 1 + 0
    omega)

/-- The pass's minimum of row `r`. -/
theorem min_apply (r : Fin 1024) :
    k0_pay4 x0 x2 (rows x1 k) (norms x3 k) (ix2 r (0 : Fin 1))
      = (Finset.univ : Finset (Fin 1024)).fold min ⊤ (fun l => D x0 x1 x2 x3 r (pos k l)) := by
  unfold k0_pay4
  rw [col_apply]
  refine (multiReduction_minimumf_eq_fold (F := Ideal) (k0_pay3 x0 x2 (rows x1 k) (norms x3 k)) 0x7F800000#32
    reduces_S1024x1024_S1024 (.inl rfl) rfl (ix1 r)).trans ?_
  rw [Shape.Reduces.fold_filter_drop_single]
  have htop : (FloatOps.ofBits (F := Ideal) .f32 0x7F800000#32 : EReal) = ⊤ := by
    show Ideal.ofBits .f32 0x7F800000#32 = ⊤
    simp [Ideal.ofBits, Ideal.ieee]
  rw [htop]
  refine Finset.fold_congr fun l _ => ?_
  rw [Function.comp_apply]
  exact (congrArg _ (lift_ix _ r l)).trans (tile_apply x0 x1 x2 x3 k r l)

/-- The word lane `l` of the pass offers for row `r`: its codebook position where its distance is the pass's minimum,
    the largest word elsewhere. -/
def offer (r l : Fin 1024) : BitVec 32 :=
  if D x0 x1 x2 x3 r (pos k l) = (Finset.univ : Finset (Fin 1024)).fold min ⊤ (fun l => D x0 x1 x2 x3 r (pos k l))
  then BitVec.ofNat 32 (pos k l).val else 2147483647#32

theorem sel_oeq {α : Type} (u v : EReal) (a b : α) :
    Scalar.select (FloatOps.cmpf (F := Ideal) (φ := .f32) .oeq u v) a b = if u = v then a else b := by
  show Scalar.select (BitVec.ofBool (decide (u = v))) a b = _
  split_ifs with h
  · rw [decide_eq_true h]; rfl
  · rw [decide_eq_false h]; rfl

theorem sel_of {p : Prop} [Decidable p] {α : Type} (a b : α) : Scalar.select (if p then 1#1 else 0#1) a b = if p then a else b := by
  split_ifs <;> rfl

/-- The comparison of the pass's minimum with the carried one. -/
theorem better_apply (acc : FVec Ideal S1024x1 .f32) (r : Fin 1024) :
    k0_pay5 x0 x2 acc (rows x1 k) (norms x3 k) (ix2 r (0 : Fin 1))
      = if (Finset.univ : Finset (Fin 1024)).fold min ⊤ (fun l => D x0 x1 x2 x3 r (pos k l)) < acc (ix2 r (0 : Fin 1)) then 1#1 else 0#1 := by
  unfold k0_pay5
  rw [← min_apply]
  show BitVec.ofBool (decide _) = _
  split_ifs with h
  · rw [decide_eq_true h]; rfl
  · rw [decide_eq_false h]; rfl

/-- The minimum carried out of the pass. -/
theorem step_fst (acc : FVec Ideal S1024x1 .f32 × IVec S1024x1 32) (r : Fin 1024) :
    (step x0 x1 x2 x3 k acc).1 (ix2 r (0 : Fin 1))
      = if (Finset.univ : Finset (Fin 1024)).fold min ⊤ (fun l => D x0 x1 x2 x3 r (pos k l)) < acc.1 (ix2 r (0 : Fin 1))
        then (Finset.univ : Finset (Fin 1024)).fold min ⊤ (fun l => D x0 x1 x2 x3 r (pos k l)) else acc.1 (ix2 r (0 : Fin 1)) := by
  unfold step k0_pay6
  show Scalar.select (k0_pay5 x0 x2 acc.1 (rows x1 k) (norms x3 k) (ix2 r (0 : Fin 1)))
    (k0_pay4 x0 x2 (rows x1 k) (norms x3 k) (ix2 r (0 : Fin 1))) (acc.1 (ix2 r (0 : Fin 1))) = _
  rw [better_apply, sel_of, min_apply]

theorem broadcastCol_apply (v : FVec Ideal S1024x1 .f32) (h : S1024x1.Broadcasts S1024x1024) (r l : Fin 1024) :
    broadcastTo S1024x1024 v h (ix2 r l) = v (ix2 r (0 : Fin 1)) :=
  broadcastTo_apply v h (ix2 r l) (ix2 r (0 : Fin 1)) (fun a => by fin_cases a <;> rfl)

/-- The word the pass offers at row `r`, lane `l`. -/
theorem offer_apply (r l : Fin 1024) :
    select (cmpf .oeq (k0_pay3 x0 x2 (rows x1 k) (norms x3 k))
        (broadcastTo S1024x1024 (k0_pay4 x0 x2 (rows x1 k) (norms x3 k)) broadcasts_S1024x1_S1024x1024))
      (addi (iota .tc S1024x1024 32 [1] iota_S1024x1024_d1_w32)
        (broadcast S1024x1024 (Scalar.muli (Scf.iv 0#32 1#32 k.val) 1024#32)))
      (broadcast S1024x1024 2147483647#32) (ix2 r l) = offer x0 x1 x2 x3 k r l := by
  rw [ValueIdx.select_apply, ValueIdx.cmpf_apply, tile_apply, broadcastCol_apply, min_apply, sel_oeq]
  have hw : addi (iota .tc S1024x1024 32 [1] iota_S1024x1024_d1_w32)
      (broadcast S1024x1024 (Scalar.muli (Scf.iv 0#32 1#32 k.val) 1024#32)) (ix2 r l) = BitVec.ofNat 32 (pos k l).val := by
    show BitVec.add (iota .tc S1024x1024 32 [1] iota_S1024x1024_d1_w32 (ix2 r l)) (Scalar.muli (Scf.iv 0#32 1#32 k.val) 1024#32) = _
    rw [iota_single_apply, base_eq]
    show BitVec.ofNat 32 l.val + BitVec.ofNat 32 (1024 * k.val) = BitVec.ofNat 32 (1024 * k.val + l.val)
    rw [← BitVec.ofNat_add, Nat.add_comm]
  rw [hw]
  rfl

/-- The index carried out of the pass. -/
theorem step_snd (acc : FVec Ideal S1024x1 .f32 × IVec S1024x1 32) (r : Fin 1024) :
    (step x0 x1 x2 x3 k acc).2 (ix2 r (0 : Fin 1))
      = if (Finset.univ : Finset (Fin 1024)).fold min ⊤ (fun l => D x0 x1 x2 x3 r (pos k l)) < acc.1 (ix2 r (0 : Fin 1))
        then (Finset.univ : Finset (Fin 1024)).fold IntOp.minsi 2147483647#32 (offer x0 x1 x2 x3 k r) else acc.2 (ix2 r (0 : Fin 1)) := by
  unfold step k0_pay7
  dsimp only
  rw [ValueIdx.select_apply, better_apply, sel_of, col_apply]
  refine if_congr Iff.rfl ?_ rfl
  refine (multiReductionI_eq_fold _ _ _ reduces_S1024x1024_S1024 rfl (ix1 r)).trans ?_
  rw [Shape.Reduces.fold_filter_drop_single]
  refine Finset.fold_congr fun l _ => ?_
  rw [Function.comp_apply]
  exact (congrArg _ (lift_ix _ r l)).trans (offer_apply x0 x1 x2 x3 k r l)

/-- The first nearest lane of the pass, as a codebook position: its distance is the pass's minimum, the fold of the
    offered words is its position, and it comes before every other position of the pass. -/
theorem pass_best (r : Fin 1024) : ∃ l0 : Fin 1024,
    (Finset.univ : Finset (Fin 1024)).fold min ⊤ (fun l => D x0 x1 x2 x3 r (pos k l)) = D x0 x1 x2 x3 r (pos k l0)
      ∧ (Finset.univ : Finset (Fin 1024)).fold IntOp.minsi 2147483647#32 (offer x0 x1 x2 x3 k r) = BitVec.ofNat 32 (pos k l0).val
      ∧ ∀ l, Before (D x0 x1 x2 x3 r) (pos k l0) (pos k l) := by
  obtain ⟨hle, l1, hl1⟩ := block_min (fun l => D x0 x1 x2 x3 r (pos k l)) (by decide)
  have hoff : ∀ l, offer x0 x1 x2 x3 k r l
      = if D x0 x1 x2 x3 r (pos k l) = (Finset.univ : Finset (Fin 1024)).fold min ⊤ (fun l => D x0 x1 x2 x3 r (pos k l))
        then BitVec.ofNat 32 (pos k l).val else 2147483647#32 := fun _ => rfl
  generalize (Finset.univ : Finset (Fin 1024)).fold min ⊤ (fun l => D x0 x1 x2 x3 r (pos k l)) = μ at hle hl1 hoff ⊢
  have hne : (Finset.univ.filter fun l => D x0 x1 x2 x3 r (pos k l) = μ).Nonempty := ⟨l1, by simpa using hl1.symm⟩
  obtain ⟨l0, h0, hfirst⟩ := Finset.exists_min_image _ (fun l : Fin 1024 => l.val) hne
  have h0' : D x0 x1 x2 x3 r (pos k l0) = μ := (Finset.mem_filter.mp h0).2
  have hsmall : ∀ l, (BitVec.ofNat 32 (pos k l).val).toInt = ((pos k l).val : Int) := fun l =>
    toInt_ofNat_small (by have := (pos k l).isLt; omega)
  have hbig : (2147483647#32 : BitVec 32).toInt = 2147483647 := by decide
  have h0off : offer x0 x1 x2 x3 k r l0 = BitVec.ofNat 32 (pos k l0).val := (hoff l0).trans (if_pos h0')
  have hlt : ∀ l, ((pos k l).val : Int) ≤ 2147483647 := fun l => by have := (pos k l).isLt; omega
  refine ⟨l0, h0'.symm, ?_, fun l => ?_⟩
  · rw [← h0off]
    refine fold_minsi_eq _ _ l0 ?_ fun j => ?_
    · rw [h0off, hsmall, hbig]; exact hlt l0
    · rw [h0off, hsmall, hoff j]
      split_ifs with hj
      · rw [hsmall]
        have := hfirst j (by simpa using hj)
        show ((1024 * k.val + l0.val : ℕ) : Int) ≤ ((1024 * k.val + j.val : ℕ) : Int)
        omega
      · rw [hbig]; exact hlt l0
  · by_cases hl : D x0 x1 x2 x3 r (pos k l) = μ
    · refine Or.inr ⟨h0'.trans hl.symm, ?_⟩
      have := hfirst l (by simpa using hl)
      show 1024 * k.val + l0.val ≤ 1024 * k.val + l.val
      omega
    · exact Or.inl (h0' ▸ lt_of_le_of_ne (hle l) fun e => hl e.symm)

/-- One pass keeps the invariant: the carried pair is the least distance of row `r` among the positions read so far,
    and the first position that has it. -/
theorem step_best (hD : ∀ (r : Fin 1024) (j : Fin 8192), D x0 x1 x2 x3 r j < ⊤)
    (acc : FVec Ideal S1024x1 .f32 × IVec S1024x1 32) (r : Fin 1024)
    (h : Best (D x0 x1 x2 x3 r) (1024 * k.val) (acc.1 (ix2 r (0 : Fin 1))) (acc.2 (ix2 r (0 : Fin 1)))) :
    Best (D x0 x1 x2 x3 r) (1024 * (k.val + 1)) ((step x0 x1 x2 x3 k acc).1 (ix2 r (0 : Fin 1)))
      ((step x0 x1 x2 x3 k acc).2 (ix2 r (0 : Fin 1))) := by
  obtain ⟨l0, hm, hi, hb⟩ := pass_best x0 x1 x2 x3 k r
  rw [step_fst, step_snd, hm, hi]
  have := h.step (hD r) (w := 1024) (pos k l0) (Nat.le_add_right _ _) (Nat.add_lt_add_left l0.isLt _) fun j hj hj' => by
    have e : j = pos k ⟨j.val - 1024 * k.val, by omega⟩ := Fin.ext (by show j.val = 1024 * k.val + (j.val - 1024 * k.val); omega)
    rw [e]; exact hb _
  rwa [Nat.mul_succ]

/-- The carried pair before pass `n`. -/
theorem state_best (hD : ∀ (r : Fin 1024) (j : Fin 8192), D x0 x1 x2 x3 r j < ⊤) (r : Fin 1024) :
    ∀ n : ℕ, n ≤ k0_t1_loop.trips → Best (D x0 x1 x2 x3 r) (1024 * n) ((state x0 x1 x2 x3 n).1 (ix2 r (0 : Fin 1)))
      ((state x0 x1 x2 x3 n).2 (ix2 r (0 : Fin 1)))
  | 0, _ => Or.inl ⟨rfl, show Ideal.ofBits .f32 0x7F800000#32 = ⊤ by simp [Ideal.ofBits, Ideal.ieee]⟩
  | n + 1, hn => by
    have ih := state_best hD r n (Nat.le_of_succ_le hn)
    rw [show state x0 x1 x2 x3 (n + 1) = step x0 x1 x2 x3 ⟨n, hn⟩ (state x0 x1 x2 x3 n) from state_succ x0 x1 x2 x3 ⟨n, hn⟩]
    exact step_best x0 x1 x2 x3 ⟨n, hn⟩ hD _ r ih

/-- After the last pass: row `r`'s minimum and index are those of its first nearest codebook entry. -/
theorem final_best (hD : ∀ (r : Fin 1024) (j : Fin 8192), D x0 x1 x2 x3 r j < ⊤) (r : Fin 1024) :
    ∃ a : Fin 8192, (state x0 x1 x2 x3 k0_t1_loop.trips).1 (ix2 r (0 : Fin 1)) = D x0 x1 x2 x3 r a
      ∧ (state x0 x1 x2 x3 k0_t1_loop.trips).2 (ix2 r (0 : Fin 1)) = BitVec.ofNat 32 a.val
      ∧ ∀ j, Before (D x0 x1 x2 x3 r) a j := by
  have h := state_best x0 x1 x2 x3 hD r _ le_rfl
  rw [show 1024 * k0_t1_loop.trips = 8192 by rw [trips_eq]] at h
  exact h.exists_of_all (by decide)

end

end Cert.KernelIdeal.Value
-- ==== Proof.Arrays.lean ====
/-
  What the kernel's two result arrays hold when its grid has run: row by row, the first nearest codebook entry and its
  distance.
-/
module

public import proofs.«01_k».proof.Proof.BlockValue
public import proofs.«01_k».proof.Proof.Spec
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.Proof.VQ

variable (m : (ℓ : Loc nD τ sig) → Buf (Elt Ideal) ℓ) (c : Dev nD)

/-- The rows to be matched: the first argument with its two leading axes merged. -/
def zOf : Rows64 := shapeCast S8192x64 (m ((c : Thread nD τ).loc main_arg0) : FVec Ideal S8x1024x64 .f32) shapeCasts_S8x1024x64_S8192x64

/-- The codebook: the second argument. -/
def cbOf : Rows64 := m ((c : Thread nD τ).loc main_arg1)

theorem V_v0 : V m c main_v0 = zOf m c := by
  entry_read
  rfl

theorem V_v3_eq : (V m c main_v3 : FVec Ideal S8192x1 .f32)
    = (broadcastInDim S8192x1 ![0] bcast_S8192_S8192x1_0 (Host.reduceAdd (F := Ideal) (φ := .f32) (mulf (zOf m c : FVec Ideal S8192x64 .f32) (zOf m c : FVec Ideal S8192x64 .f32))
        (constant S_ .f32 0x00000000#32) reducesTo_S8192x64_S8192_d1 h_S_) : FVec Ideal S8192x1 .f32) := by
  entry_read
  rfl

theorem V_v6_eq : (V m c main_v6 : FVec Ideal S1x8192 .f32)
    = (shapeCast S1x8192 (Host.reduceAdd (F := Ideal) (φ := .f32) (mulf (cbOf m c : FVec Ideal S8192x64 .f32) (cbOf m c : FVec Ideal S8192x64 .f32))
        (constant S_ .f32 0x00000000#32) reducesTo_S8192x64_S8192_d1 h_S_) shapeCasts_S8192_S1x8192 : FVec Ideal S1x8192 .f32) := by
  entry_read
  rfl

/-- The array of the rows' squared norms. -/
theorem V_v3 (r : Fin 8192) : (V m c main_v3 : FVec Ideal S8192x1 .f32) (ix2 r (0 : Fin 1)) = sq (zOf m c) r := by
  rw [V_v3_eq, broadcastInDim_apply _ _ _ (ix2 r (0 : Fin 1)) (ix1 r) (fun a => by fin_cases a; rfl)]
  exact rowSum_apply _ _ _ r

/-- The array of the codebook entries' squared norms. -/
theorem V_v6 (j : Fin 8192) : (V m c main_v6 : FVec Ideal S1x8192 .f32) (ix2 (0 : Fin 1) j) = sq (cbOf m c) j := by
  rw [V_v6_eq, shapeCast_apply _ _ (ix2 (0 : Fin 1) j) (ix1 j) (by
    rw [Shape.rowMajor_val_one, Shape.rowMajor_val_two]
    show j.val = 0 * 8192 + j.val
    omega)]
  exact rowSum_apply _ _ _ j

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)

/-- The row of the whole array that row `r` of block `t` is. -/
def row (t : Fin cfg0.N) (r : Fin 1024) : Fin 8192 :=
  ⟨1024 * t.val + r.val, by have h := t.isLt; have e : cfg0.N = 8 := N_0; have := r.isLt; omega⟩

theorem row_val (t : Fin cfg0.N) (r : Fin 1024) : (row t r).val = t.val * 1024 + r.val := by
  show 1024 * t.val + r.val = _
  omega

/-! ## The input blocks at coordinates -/

theorem blk0 (t : Fin cfg0.N) (r : Fin 1024) (k : Fin 64) :
    (iblk m c 0 t : FVec Ideal S1024x64 .f32) (ix2 r k) = zOf m c (ix2 (row t r) k) := by
  rw [← V_v0]
  blk_simp [iblk]
  refine congrArg (V m c main_v0) ?_
  blk_ext [idx0 t, row_val]

theorem blk1 (t : Fin cfg0.N) (j : Fin 8192) (k : Fin 64) :
    (iblk m c 1 t : FVec Ideal S8192x64 .f32) (ix2 j k) = cbOf m c (ix2 j k) := by
  unfold cbOf
  rw [← V_main_arg1 m c]
  blk_simp [iblk]
  refine congrArg (V m c main_arg1) ?_
  blk_ext [idx1 t]

theorem blk2 (t : Fin cfg0.N) (r : Fin 1024) :
    (iblk m c 2 t : FVec Ideal S1024x1 .f32) (ix2 r (0 : Fin 1)) = sq (zOf m c) (row t r) := by
  rw [← V_v3]
  blk_simp [iblk]
  refine congrArg (V m c main_v3) ?_
  blk_ext [idx2 t, row_val]

theorem blk3 (t : Fin cfg0.N) (j : Fin 8192) :
    (iblk m c 3 t : FVec Ideal S1x8192 .f32) (ix2 (0 : Fin 1) j) = sq (cbOf m c) j := by
  rw [← V_v6]
  blk_simp [iblk]
  refine congrArg (V m c main_v6) ?_
  blk_ext [idx3 t]

/-- Row `r` of block `t` has, in the body's blocks, the distances of its row of the whole array. -/
theorem D_blk (t : Fin cfg0.N) (r : Fin 1024) :
    D (iblk m c 0 t) (iblk m c 1 t) (iblk m c 2 t) (iblk m c 3 t) r = dist2 (zOf m c) (cbOf m c) (row t r) := by
  funext j
  unfold D dist2
  rw [blk2, blk3]
  refine congrArg (fun e : EReal => (sq (zOf m c) (row t r) + sq (cbOf m c) j) - Ideal.ofBits .f32 0x40000000#32 * e)
    (Finset.sum_congr rfl fun k _ => ?_)
  rw [blk0, blk1]

/-! ## The two result arrays -/

/-- The index array: each row's first nearest codebook entry. -/
def idxArr : S8192x1.Idx → BitVec 32 := fun y => BitVec.ofNat 32 (near (dist2 (zOf m c) (cbOf m c) (y 0))).val

/-- The minimum array: each row's distance to it. -/
def minArr : S8192x1.Idx → EReal := fun y => dist2 (zOf m c) (cbOf m c) (y 0) (near (dist2 (zOf m c) (cbOf m c) (y 0)))

theorem eq_col (y : S1024x1.Idx) : y = ix2 (n0 := 1024) (n1 := 1) (y 0) (0 : Fin 1) := by
  funext a; apply Fin.ext
  match a with
  | ⟨0, _⟩ => rfl
  | ⟨1, _⟩ => exact Nat.lt_one_iff.mp (y 1).isLt

theorem emb4 (t : Fin cfg0.N) (r : Fin 1024) : (win0_4.blk t).view.emb (ix2 r (0 : Fin 1)) = ix2 (row t r) (0 : Fin 1) := by
  blk_ext [idx4 t, row_val]

theorem emb5 (t : Fin cfg0.N) (r : Fin 1024) : (win0_5.blk t).view.emb (ix2 r (0 : Fin 1)) = ix2 (row t r) (0 : Fin 1) := by
  blk_ext [idx5 t, row_val]

section
variable (hD : ∀ r j : Fin 8192, dist2 (zOf m c) (cbOf m c) r j < ⊤)
include hD

theorem outs (t : Fin cfg0.N) (r : Fin 1024) :
    (outsAt0 m c t).1 (ix2 r (0 : Fin 1)) = BitVec.ofNat 32 (near (dist2 (zOf m c) (cbOf m c) (row t r))).val
      ∧ (outsAt0 m c t).2 (ix2 r (0 : Fin 1)) = dist2 (zOf m c) (cbOf m c) (row t r) (near (dist2 (zOf m c) (cbOf m c) (row t r))) := by
  obtain ⟨a, hv, hi, hb⟩ := final_best (iblk m c 0 t) (iblk m c 1 t) (iblk m c 2 t) (iblk m c 3 t)
    (fun r j => by rw [D_blk]; exact hD _ j) r
  rw [D_blk] at hv hb
  obtain rfl := eq_near hb
  unfold outsAt0
  dsimp only
  rw [out_4, out_5]
  exact ⟨hi, hv⟩

theorem outs_4 (t : Fin cfg0.N) (y : S1024x1.Idx) : (outsAt0 m c t).1 y = idxArr m c ((win0_4.blk t).view.emb y) := by
  obtain ⟨r, rfl⟩ : ∃ r : Fin 1024, y = ix2 r (0 : Fin 1) := ⟨_, eq_col y⟩
  rw [emb4]
  exact (outs m c hD t r).1

theorem outs_5 (t : Fin cfg0.N) (y : S1024x1.Idx) : (outsAt0 m c t).2 y = minArr m c ((win0_5.blk t).view.emb y) := by
  obtain ⟨r, rfl⟩ : ∃ r : Fin 1024, y = ix2 r (0 : Fin 1) := ⟨_, eq_col y⟩
  rw [emb5]
  exact (outs m c hD t r).2

/-- The index array when the grid has run. -/
theorem final_4 : (dats m 0 c).arrAt 4 cfg0.N = idxArr m c := by
  refine (dats m 0 c).arrAt_eq_of_covers 4 _ (by decide +kernel) fun t hf y => ?_
  blk_simp
  rw [after0_4]
  exact outs_4 m c hD t y

/-- The minimum array when the grid has run. -/
theorem final_5 : (dats m 0 c).arrAt 5 cfg0.N = minArr m c := by
  refine (dats m 0 c).arrAt_eq_of_covers 5 _ (by decide +kernel) fun t hf y => ?_
  blk_simp
  rw [after0_5]
  exact outs_5 m c hD t y

end

end Cert.KernelIdeal.Value
-- ==== Proof.Loss.lean ====
/-
  The loss. The total of the reference's squared differences is the total over the rows of the distance to the nearest
  entry, which is what the kernel adds up; five quarters of it over the count is a quarter of its mean plus its mean.
-/
module

public import proofs.«01_k».proof.Proof.RefIndex
public import proofs.«01_k».proof.Proof.Lookup
public import proofs.«01_k».proof.Proof.Finite
public import proofs.«01_k».proof.Proof.Tail
public import proofs.«01_k».proof.Proof.Arrays

@[expose] public section

set_option maxRecDepth 16384

noncomputable section

namespace Cert.ReferenceIdeal.Value

open Idealize.ShloMosaic Cert.ReferenceIdeal Cert.ReferenceIdeal.Gen Cert.Proof.VQ

/-- The nearest entry of each row. -/
def nearOf (z : FVec Ideal S8x1024x64 .f32) (cb : FVec Ideal S8192x64 .f32) (r : Fin 8192) : Fin 8192 := near (dist2 (rowsOf z) cb r)

/-- The total over the rows of the distance to the nearest entry. -/
def total (z : FVec Ideal S8x1024x64 .f32) (cb : FVec Ideal S8192x64 .f32) : EReal :=
  ∑ r : Fin 8192, dist2 (rowsOf z) cb r (nearOf z cb r)

theorem rows_real {z : FVec Ideal S8x1024x64 .f32} (hz : AllReal z) : AllReal (rowsOf z) := fun i => hz _

/-- That total is a real number. -/
theorem total_real {z : FVec Ideal S8x1024x64 .f32} {cb : FVec Ideal S8192x64 .f32} (hz : AllReal z) (hc : AllReal cb) :
    ∃ v : ℝ, total z cb = (v : EReal) := by
  choose f hf _ using fun r => dist2_eq (rows_real hz) hc r (nearOf z cb r)
  refine ⟨∑ r, f r, ?_⟩
  unfold total
  simp only [hf]
  exact coe_sum f

/-- The sum of the squared differences between two arrays, the second a table read in the first's shape, row by row. -/
theorem sum_rows (z : FVec Ideal S8x1024x64 .f32) (T : FVec Ideal S8192x64 .f32) :
    ∑ i : S8x1024x64.Idx, (z i - shapeCast S8x1024x64 T shapeCasts_S8192x64_S8x1024x64 i) * (z i - shapeCast S8x1024x64 T shapeCasts_S8192x64_S8x1024x64 i)
      = ∑ r : Fin 8192, ∑ k : Fin 64, (rowsOf z (ix2 r k) - T (ix2 r k)) * (rowsOf z (ix2 r k) - T (ix2 r k)) := by
  rw [← Equiv.sum_comp (Shape.reshapeEquiv shapeCasts_S8x1024x64_S8192x64), ← sum_idx2 fun y => (rowsOf z y - T y) * (rowsOf z y - T y)]
  refine Finset.sum_congr rfl fun y _ => ?_
  have e : shapeCast S8x1024x64 T shapeCasts_S8192x64_S8x1024x64 (Shape.reshapeEquiv shapeCasts_S8x1024x64_S8192x64 y) = T y :=
    congrFun (shapeCast_shapeCast T shapeCasts_S8192x64_S8x1024x64 shapeCasts_S8x1024x64_S8192x64) y
  rw [e]
  rfl

/-- The reference's index of each row. -/
theorem index_near {z : FVec Ideal S8x1024x64 .f32} {cb : FVec Ideal S8192x64 .f32} (hz : AllReal z) (hc : AllReal cb) (r : Fin 8192) :
    indexOf z cb (ix1 r) = BitVec.ofNat 32 (nearOf z cb r).val :=
  index_apply z cb (fun r j => dist2_lt_top (rows_real hz) hc r j) r

/-- The reference's total of squared differences. -/
theorem total_eq {z : FVec Ideal S8x1024x64 .f32} {cb : FVec Ideal S8192x64 .f32} (hz : AllReal z) (hc : AllReal cb) (j : S_.Idx) :
    Host.reduceAdd (mulf (subf z (entriesOf z cb)) (subf z (entriesOf z cb))) (constant S_ .f32 0x00000000#32) reducesTo_S8x1024x64_S_d0_1_2 h_S_ j
      = total z cb := by
  refine (Ideal.hostReduceAdd_total reducesTo_S8x1024x64_S_d0_1_2 (fun b => b.elim0) _ (Ideal.ofBits .f32 0x00000000#32) j).trans ?_
  rw [Ideal.ofBits_zero_f32, zero_add]
  refine (sum_rows z (takeOf cb (indexOf z cb))).trans ?_
  unfold total
  refine Finset.sum_congr rfl fun r _ => ?_
  obtain ⟨v, hv, hd⟩ := dist2_eq (rows_real hz) hc r (nearOf z cb r)
  rw [hv, ← hd]
  unfold diffSq
  refine Finset.sum_congr rfl fun k _ => ?_
  rw [take_apply cb (indexOf z cb) (nearOf z cb) (index_near hz hc) r k]

/-- The reference's loss. -/
theorem loss_apply {z : FVec Ideal S8x1024x64 .f32} {cb : FVec Ideal S8192x64 .f32} (hz : AllReal z) (hc : AllReal cb) (j : S_.Idx) :
    lossOf z (entriesOf z cb) j = Ideal.ofBits .f32 0x3E800000#32 * Ideal.div (total z cb) (Ideal.ofBits .f32 0x49000000#32)
      + Ideal.div (total z cb) (Ideal.ofBits .f32 0x49000000#32) := by
  have hm : meanSq z (entriesOf z cb) j = Ideal.div (total z cb) (Ideal.ofBits .f32 0x49000000#32) :=
    congrArg (fun s : EReal => Ideal.div s (Ideal.ofBits .f32 0x49000000#32)) (total_eq hz hc j)
  exact congrArg (fun s : EReal => Ideal.ofBits .f32 0x3E800000#32 * s + s) hm

end Cert.ReferenceIdeal.Value

namespace Cert.KernelIdeal.Value

open Idealize.ShloMosaic Cert.KernelIdeal Cert.KernelIdeal.Gen Cert.Proof.VQ
open Cert.ReferenceIdeal.Value (nearOf total indexOf entriesOf rows_real)

/-- The kernel's loss, from an array holding each row's distance to its nearest entry. -/
theorem loss_apply (z : FVec Ideal S8x1024x64 .f32) (cb : FVec Ideal S8192x64 .f32) (mn : FVec Ideal S8192x1 .f32)
    (hmn : ∀ r : Fin 8192, mn (ix2 r (0 : Fin 1)) = dist2 (Cert.ReferenceIdeal.Value.rowsOf z) cb r (nearOf z cb r)) (j : S_.Idx) :
    lossOf mn j = Ideal.div (Ideal.ofBits .f32 0x3FA00000#32 * total z cb) (Ideal.ofBits .f32 0x49000000#32) := by
  have hs : Host.reduceAdd mn (constant S_ .f32 0x00000000#32) reducesTo_S8192x1_S_d0_1 h_S_ j = total z cb := by
    refine (Ideal.hostReduceAdd_total reducesTo_S8192x1_S_d0_1 (fun b => b.elim0) mn (Ideal.ofBits .f32 0x00000000#32) j).trans ?_
    rw [Ideal.ofBits_zero_f32, zero_add, sum_idx2]
    unfold total
    refine Finset.sum_congr rfl fun r _ => ?_
    rw [Fin.sum_univ_one]
    exact hmn r
  unfold lossOf
  rw [shapeCast_self]
  exact congrArg (fun s : EReal => Ideal.div (Ideal.ofBits .f32 0x3FA00000#32 * s) (Ideal.ofBits .f32 0x49000000#32)) hs

section
variable (m : (ℓ : Loc nD τ sig) → Buf (Elt Ideal) ℓ) (c : Dev nD)

/-- The rows the kernel is given. -/
abbrev zArg : FVec Ideal S8x1024x64 .f32 := m ((c.tc : Thread nD τ).loc main_arg0)
/-- The codebook the kernel is given. -/
abbrev cbArg : FVec Ideal S8192x64 .f32 := m ((c.tc : Thread nD τ).loc main_arg1)

variable {m c} (hz : AllReal (zArg m c)) (hc : AllReal (cbArg m c))
include hz hc

theorem below_top (r j : Fin 8192) : dist2 (zOf m c) (cbOf m c) r j < ⊤ :=
  dist2_lt_top (z := zOf m c) (cb := cbOf m c) (rows_real hz) hc r j

/-- The kernel's index of each row. -/
theorem flatIx_apply (r : Fin 8192) : flatIx m c (ix1 r) = BitVec.ofNat 32 (nearOf (zArg m c) (cbArg m c) r).val := by
  unfold flatIx
  refine (shapeCast_apply _ _ (ix1 r) (ix2 r (0 : Fin 1)) ?_).trans ?_
  · refine (Shape.rowMajor_val_two _).trans (Eq.trans ?_ (Shape.rowMajor_val_one _).symm)
    show r.val * 1 + 0 = r.val
    omega
  · exact congrFun (final_4 m c (below_top hz hc)) _

/-- The kernel's indices are the reference's. -/
theorem flatIx_eq : flatIx m c = indexOf (zArg m c) (cbArg m c) := by
  funext y
  have h : ∀ r : Fin 8192, flatIx m c (ix1 r) = indexOf (zArg m c) (cbArg m c) (ix1 r) := fun r =>
    (flatIx_apply hz hc r).trans (Cert.ReferenceIdeal.Value.index_near hz hc r).symm
  have hy : y = ix1 (y 0) := eq_ix1 y
  exact (congrArg (flatIx m c) hy).trans ((h (y 0)).trans (congrArg (indexOf (zArg m c) (cbArg m c)) hy).symm)

/-- The kernel's loss is the reference's. -/
theorem loss_eq : lossOf (mnArr m c) = Cert.ReferenceIdeal.Value.lossOf (zArg m c) (entriesOf (zArg m c) (cbArg m c)) := by
  funext j
  refine (loss_apply (zArg m c) (cbArg m c) (mnArr m c) (fun r => congrFun (final_5 m c (below_top hz hc)) _) j).trans ?_
  refine (scale_eq (Cert.ReferenceIdeal.Value.total_real hz hc)).trans ?_
  exact (Cert.ReferenceIdeal.Value.loss_apply hz hc j).symm

end

end Cert.KernelIdeal.Value
-- ==== Proof.Agree.lean ====
/-
  The equation between the two programs: on arguments of real numbers they end with the same three results, the
  arguments unchanged.
-/
module

public import proofs.«01_k».proof.Proof.Loss

@[expose] public section

set_option maxRecDepth 16384

noncomputable section

namespace Cert.Proof

open Idealize.ShloMosaic Idealize.SL.Sem Cert.Proof.VQ

/-- What the precondition compares has the shapes it needs. -/
theorem finiteFacts : Cert.Pre_finite.Facts where
  bcast_S_S8x1024x64 := by decide
  bcast_S_S8192x64 := by decide

variable [hPre : Cert.Pre_finite.Facts]

/-- Under the precondition the rows are real numbers. -/
theorem rows_of_pre {m : (ℓ : Loc Cert.KernelIdeal.nD Cert.KernelIdeal.τ Cert.KernelIdeal.sig) → Buf (Elt Ideal) ℓ}
    (h : Cert.Pre_KernelIdeal_finite m) (c : Dev Cert.KernelIdeal.nD) : AllReal (Cert.KernelIdeal.Value.zArg m c) :=
  fun i => real_of_word (congrFun (h c).1 i)

/-- Under the precondition the codebook's entries are real numbers. -/
theorem codebook_of_pre {m : (ℓ : Loc Cert.KernelIdeal.nD Cert.KernelIdeal.τ Cert.KernelIdeal.sig) → Buf (Elt Ideal) ℓ}
    (h : Cert.Pre_KernelIdeal_finite m) (c : Dev Cert.KernelIdeal.nD) : AllReal (Cert.KernelIdeal.Value.cbArg m c) :=
  fun i => real_of_word (congrFun (h c).2 i)

/-- The kernel and the reference end with the same three results. -/
theorem agree : @Cert.algebraic_KernelIdeal_ReferenceIdeal_pre_finite Cert.KernelIdeal.Gen.facts Cert.ReferenceIdeal.Gen.facts hPre := by
  intro m g m' g' hpre hargs
  refine ⟨fun c => addf (Cert.KernelIdeal.Value.zArg m c)
      (subf (shapeCast Cert.KernelIdeal.S8x1024x64
        (Cert.ReferenceIdeal.Value.takeOf (Cert.KernelIdeal.Value.cbArg m c) (Cert.KernelIdeal.Value.flatIx m c) : FVec Ideal Cert.KernelIdeal.S8192x64 .f32)
        Cert.KernelIdeal.Gen.shapeCasts_S8192x64_S8x1024x64) (Cert.KernelIdeal.Value.zArg m c)),
    fun c => Cert.KernelIdeal.Value.lossOf (Cert.KernelIdeal.Value.mnArr m c),
    fun c => shapeCast Cert.KernelIdeal.S8x1024 (Cert.KernelIdeal.Value.flatIx m c) Cert.KernelIdeal.Gen.shapeCasts_S8192_S8x1024,
    Cert.KernelIdeal.Value.run m g, (θ_run _ _ _).mono (fun r h c => ?_) (Cert.ReferenceIdeal.Value.run m' g')⟩
  have hz := rows_of_pre hpre c
  have hc := codebook_of_pre hpre c
  obtain ⟨h1, h2, h3, h4, h5⟩ := h c
  rw [(hargs c).1, (hargs c).2] at h1 h2 h3
  refine ⟨h1.trans ?_, h2.trans ?_, h3.trans ?_, h4, h5⟩
  · exact congrArg (fun ix : IVec Cert.KernelIdeal.S8192 32 => addf (Cert.KernelIdeal.Value.zArg m c)
      (subf (shapeCast Cert.KernelIdeal.S8x1024x64
        (Cert.ReferenceIdeal.Value.takeOf (Cert.KernelIdeal.Value.cbArg m c) ix : FVec Ideal Cert.KernelIdeal.S8192x64 .f32)
        Cert.KernelIdeal.Gen.shapeCasts_S8192x64_S8x1024x64) (Cert.KernelIdeal.Value.zArg m c))) (Cert.KernelIdeal.Value.flatIx_eq hz hc).symm
  · exact (Cert.KernelIdeal.Value.loss_eq hz hc).symm
  · exact congrArg (fun ix : IVec Cert.KernelIdeal.S8192 32 => shapeCast Cert.KernelIdeal.S8x1024 ix
      Cert.KernelIdeal.Gen.shapeCasts_S8192_S8x1024) (Cert.KernelIdeal.Value.flatIx_eq hz hc).symm

end Cert.Proof
-- ==== Proof.lean ====
/- The certificate's claim, assembled: the frames of the three programs, and the equation between the kernel and the
   reference on finite arguments (proof/Proof/Agree.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, finiteFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Value.quiescent m ρ,
  fun m ρ _ => Cert.ReferenceIdeal.Value.quiescent m ρ,
  trivial,
  agree (hPre := finiteFacts)⟩

end Cert.Proof

end
